-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x512 : Shape := ⟨2, ![4096, 512]⟩
abbrev S1 : Shape := ⟨1, ![1]⟩
abbrev S32x128x4096 : Shape := ⟨3, ![32, 128, 4096]⟩
abbrev S15 : Shape := ⟨1, ![15]⟩
abbrev S32 : Shape := ⟨1, ![32]⟩
abbrev S_ : Shape := ⟨0, ![]⟩
abbrev S128x4096 : Shape := ⟨2, ![128, 4096]⟩
abbrev S1x128x4096 : Shape := ⟨3, ![1, 128, 4096]⟩
abbrev S128x512 : Shape := ⟨2, ![128, 512]⟩

abbrev nBuf : Space → Nat
  | .hbm => 5
  | .vmem => 5
  | .smem => 2
  | _ => 0

abbrev bufTy : (tb : Table) → Fin (tcTables nBuf tb) → BufTy
  | .hbm, ⟨0, _⟩ => ⟨S256x4096, .fp8e5m2⟩
  | .hbm, ⟨1, _⟩ => ⟨S4096x512, .fp8e5m2⟩
  | .hbm, ⟨2, _⟩ => ⟨S1, .f32⟩
  | .hbm, ⟨3, _⟩ => ⟨S1, .f32⟩
  | .hbm, ⟨4, _⟩ => ⟨S4096x512, .f32⟩
  | .local _ .vmem, ⟨0, _⟩ => ⟨S256x4096, .fp8e5m2⟩
  | .local _ .vmem, ⟨1, _⟩ => ⟨S4096x512, .fp8e5m2⟩
  | .local _ .vmem, ⟨2, _⟩ => ⟨S4096x512, .f32⟩
  | .local _ .vmem, ⟨3, _⟩ => ⟨S32x128x4096, .fp8e5m2⟩
  | .local _ .vmem, ⟨4, _⟩ => ⟨S4096x512, .fp8e5m2⟩
  | .local _ .smem, ⟨0, _⟩ => ⟨S1, .f32⟩
  | .local _ .smem, ⟨1, _⟩ => ⟨S1, .f32⟩
  | _, _ => ⟨S256x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 3 → Nat :=
  let c2_i32_11 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v15 : BitVec 32 := Scalar.muli c2_i32_11 v2
  let v16 : Index := Scalar.indexCast v15
  let c0_12 : Index := 0#32
  let c0_13 : Index := 0#32
  ![v16.toNat, 0, 0]
def k0_off2 (d0 : Dev nD) : Fin 3 → Nat :=
  let c2_i32_15 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v22 : BitVec 32 := Scalar.muli c2_i32_15 v2
  let c1_i32_16 : BitVec 32 := 1#32
  let v23 : BitVec 32 := Scalar.addi v22 c1_i32_16
  let v24 : Index := Scalar.indexCast v23
  let c0_17 : Index := 0#32
  let c0_18 : Index := 0#32
  ![v24.toNat, 0, 0]
def k0_off3 (d0 : Dev nD) (c32_i32 : BitVec 32) (c0_i32_27 : BitVec 32) : Fin 1 → Nat :=
  let c2_i32_26 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v36 : BitVec 32 := Scalar.addi v2 c32_i32
  let c16_i32_25 : BitVec 32 := 16#32
  let v37 : BitVec 32 := Scalar.remsi v36 c16_i32_25
  let v38 : BitVec 32 := Scalar.muli c2_i32_26 v37
  let v39 : BitVec 32 := Scalar.addi v38 c0_i32_27
  ![v39.toNat]
def k0_off3_at (r : Fin 32) : BitVec 32 × BitVec 32 :=
  if r.val < 16 then
    if r.val < 8 then
      if r.val < 4 then
        if r.val < 2 then
          if r.val < 1 then
            (32#32, 0#32)
          else
            (32#32, 1#32)
        else
          if r.val < 3 then
            (31#32, 0#32)
          else
            (33#32, 1#32)
      else
        if r.val < 6 then
          if r.val < 5 then
            (31#32, 1#32)
          else
            (33#32, 0#32)
        else
          if r.val < 7 then
            (30#32, 0#32)
          else
            (34#32, 1#32)
    else
      if r.val < 12 then
        if r.val < 10 then
          if r.val < 9 then
            (30#32, 1#32)
          else
            (34#32, 0#32)
        else
          if r.val < 11 then
            (29#32, 0#32)
          else
            (35#32, 1#32)
      else
        if r.val < 14 then
          if r.val < 13 then
            (29#32, 1#32)
          else
            (35#32, 0#32)
        else
          if r.val < 15 then
            (28#32, 0#32)
          else
            (36#32, 1#32)
  else
    if r.val < 24 then
      if r.val < 20 then
        if r.val < 18 then
          if r.val < 17 then
            (28#32, 1#32)
          else
            (36#32, 0#32)
        else
          if r.val < 19 then
            (27#32, 0#32)
          else
            (37#32, 1#32)
      else
        if r.val < 22 then
          if r.val < 21 then
            (27#32, 1#32)
          else
            (37#32, 0#32)
        else
          if r.val < 23 then
            (26#32, 0#32)
          else
            (38#32, 1#32)
    else
      if r.val < 28 then
        if r.val < 26 then
          if r.val < 25 then
            (26#32, 1#32)
          else
            (38#32, 0#32)
        else
          if r.val < 27 then
            (25#32, 0#32)
          else
            (39#32, 1#32)
      else
        if r.val < 30 then
          if r.val < 29 then
            (25#32, 1#32)
          else
            (39#32, 0#32)
        else
          if r.val < 31 then
            (24#32, 0#32)
          else
            (40#32, 1#32)
def k0_off4 (d0 : Dev nD) (c32_i32 : BitVec 32) (c0_i32_27 : BitVec 32) : Fin 3 → Nat :=
  let c2_i32_26 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v36 : BitVec 32 := Scalar.addi v2 c32_i32
  let c16_i32_25 : BitVec 32 := 16#32
  let v37 : BitVec 32 := Scalar.remsi v36 c16_i32_25
  let v38 : BitVec 32 := Scalar.muli c2_i32_26 v37
  let v39 : BitVec 32 := Scalar.addi v38 c0_i32_27
  let c0_i32_31 : BitVec 32 := 0#32
  let c0_i32_32 : BitVec 32 := 0#32
  ![v39.toNat, 0, 0]
def k0_off4_at (r : Fin 32) : BitVec 32 × BitVec 32 :=
  if r.val < 16 then
    if r.val < 8 then
      if r.val < 4 then
        if r.val < 2 then
          if r.val < 1 then
            (32#32, 0#32)
          else
            (32#32, 1#32)
        else
          if r.val < 3 then
            (31#32, 0#32)
          else
            (33#32, 1#32)
      else
        if r.val < 6 then
          if r.val < 5 then
            (31#32, 1#32)
          else
            (33#32, 0#32)
        else
          if r.val < 7 then
            (30#32, 0#32)
          else
            (34#32, 1#32)
    else
      if r.val < 12 then
        if r.val < 10 then
          if r.val < 9 then
            (30#32, 1#32)
          else
            (34#32, 0#32)
        else
          if r.val < 11 then
            (29#32, 0#32)
          else
            (35#32, 1#32)
      else
        if r.val < 14 then
          if r.val < 13 then
            (29#32, 1#32)
          else
            (35#32, 0#32)
        else
          if r.val < 15 then
            (28#32, 0#32)
          else
            (36#32, 1#32)
  else
    if r.val < 24 then
      if r.val < 20 then
        if r.val < 18 then
          if r.val < 17 then
            (28#32, 1#32)
          else
            (36#32, 0#32)
        else
          if r.val < 19 then
            (27#32, 0#32)
          else
            (37#32, 1#32)
      else
        if r.val < 22 then
          if r.val < 21 then
            (27#32, 1#32)
          else
            (37#32, 0#32)
        else
          if r.val < 23 then
            (26#32, 0#32)
          else
            (38#32, 1#32)
    else
      if r.val < 28 then
        if r.val < 26 then
          if r.val < 25 then
            (26#32, 1#32)
          else
            (38#32, 0#32)
        else
          if r.val < 27 then
            (25#32, 0#32)
          else
            (39#32, 1#32)
      else
        if r.val < 30 then
          if r.val < 29 then
            (25#32, 1#32)
          else
            (39#32, 0#32)
        else
          if r.val < 31 then
            (24#32, 0#32)
          else
            (40#32, 1#32)
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_29 : BitVec 32 := 1#32
  let v40 : BitVec 32 := Scalar.muli v7 c1_i32_29
  let v41 : BitVec 32 := Scalar.addi c0_i32_30 v40
  v41.toNat
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_40 : BitVec 32 := 1#32
  let v54 : BitVec 32 := Scalar.muli v7 c1_i32_40
  let v55 : BitVec 32 := Scalar.addi c0_i32_41 v54
  v55.toNat
def k0_dev5 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_51 : BitVec 32 := 1#32
  let v68 : BitVec 32 := Scalar.muli v5 c1_i32_51
  let v69 : BitVec 32 := Scalar.addi c0_i32_52 v68
  v69.toNat
def k0_dev6 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_62 : BitVec 32 := 1#32
  let v82 : BitVec 32 := Scalar.muli v5 c1_i32_62
  let v83 : BitVec 32 := Scalar.addi c0_i32_63 v82
  v83.toNat
def k0_off5 (d0 : Dev nD) (c32_i32_68 : BitVec 32) (c0_i32_71 : BitVec 32) : Fin 3 → Nat :=
  let c2_i32_70 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v92 : BitVec 32 := Scalar.addi v2 c32_i32_68
  let c16_i32_69 : BitVec 32 := 16#32
  let v93 : BitVec 32 := Scalar.remsi v92 c16_i32_69
  let v94 : BitVec 32 := Scalar.muli c2_i32_70 v93
  let v95 : BitVec 32 := Scalar.addi v94 c0_i32_71
  let v96 : Index := Scalar.indexCast v95
  let c0_72 : Index := 0#32
  let c0_73 : Index := 0#32
  ![v96.toNat, 0, 0]
def k0_off5_at (r : Fin 32) : BitVec 32 × BitVec 32 :=
  if r.val < 16 then
    if r.val < 8 then
      if r.val < 4 then
        if r.val < 2 then
          if r.val < 1 then
            (32#32, 0#32)
          else
            (32#32, 1#32)
        else
          if r.val < 3 then
            (31#32, 0#32)
          else
            (33#32, 1#32)
      else
        if r.val < 6 then
          if r.val < 5 then
            (31#32, 1#32)
          else
            (33#32, 0#32)
        else
          if r.val < 7 then
            (30#32, 0#32)
          else
            (34#32, 1#32)
    else
      if r.val < 12 then
        if r.val < 10 then
          if r.val < 9 then
            (30#32, 1#32)
          else
            (34#32, 0#32)
        else
          if r.val < 11 then
            (29#32, 0#32)
          else
            (35#32, 1#32)
      else
        if r.val < 14 then
          if r.val < 13 then
            (29#32, 1#32)
          else
            (35#32, 0#32)
        else
          if r.val < 15 then
            (28#32, 0#32)
          else
            (36#32, 1#32)
  else
    if r.val < 24 then
      if r.val < 20 then
        if r.val < 18 then
          if r.val < 17 then
            (28#32, 1#32)
          else
            (36#32, 0#32)
        else
          if r.val < 19 then
            (27#32, 0#32)
          else
            (37#32, 1#32)
      else
        if r.val < 22 then
          if r.val < 21 then
            (27#32, 1#32)
          else
            (37#32, 0#32)
        else
          if r.val < 23 then
            (26#32, 0#32)
          else
            (38#32, 1#32)
    else
      if r.val < 28 then
        if r.val < 26 then
          if r.val < 25 then
            (26#32, 1#32)
          else
            (38#32, 0#32)
        else
          if r.val < 27 then
            (25#32, 0#32)
          else
            (39#32, 1#32)
      else
        if r.val < 30 then
          if r.val < 29 then
            (25#32, 1#32)
          else
            (39#32, 0#32)
        else
          if r.val < 31 then
            (24#32, 0#32)
          else
            (40#32, 1#32)
def k0_off6 (d0 : Dev nD) (c32_i32_68 : BitVec 32) (c0_i32_71 : BitVec 32) : Fin 2 → Nat :=
  let c2_i32_70 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v92 : BitVec 32 := Scalar.addi v2 c32_i32_68
  let c16_i32_69 : BitVec 32 := 16#32
  let v93 : BitVec 32 := Scalar.remsi v92 c16_i32_69
  let v94 : BitVec 32 := Scalar.muli c2_i32_70 v93
  let v95 : BitVec 32 := Scalar.addi v94 c0_i32_71
  let c128_i32 : BitVec 32 := 128#32
  let v113 : BitVec 32 := Scalar.muli v95 c128_i32
  let v114 : Index := Scalar.indexCast v113
  let c0_80 : Index := 0#32
  ![v114.toNat, 0]
def k0_off6_at (r : Fin 32) : BitVec 32 × BitVec 32 :=
  if r.val < 16 then
    if r.val < 8 then
      if r.val < 4 then
        if r.val < 2 then
          if r.val < 1 then
            (32#32, 0#32)
          else
            (32#32, 1#32)
        else
          if r.val < 3 then
            (31#32, 0#32)
          else
            (33#32, 1#32)
      else
        if r.val < 6 then
          if r.val < 5 then
            (31#32, 1#32)
          else
            (33#32, 0#32)
        else
          if r.val < 7 then
            (30#32, 0#32)
          else
            (34#32, 1#32)
    else
      if r.val < 12 then
        if r.val < 10 then
          if r.val < 9 then
            (30#32, 1#32)
          else
            (34#32, 0#32)
        else
          if r.val < 11 then
            (29#32, 0#32)
          else
            (35#32, 1#32)
      else
        if r.val < 14 then
          if r.val < 13 then
            (29#32, 1#32)
          else
            (35#32, 0#32)
        else
          if r.val < 15 then
            (28#32, 0#32)
          else
            (36#32, 1#32)
  else
    if r.val < 24 then
      if r.val < 20 then
        if r.val < 18 then
          if r.val < 17 then
            (28#32, 1#32)
          else
            (36#32, 0#32)
        else
          if r.val < 19 then
            (27#32, 0#32)
          else
            (37#32, 1#32)
      else
        if r.val < 22 then
          if r.val < 21 then
            (27#32, 1#32)
          else
            (37#32, 0#32)
        else
          if r.val < 23 then
            (26#32, 0#32)
          else
            (38#32, 1#32)
    else
      if r.val < 28 then
        if r.val < 26 then
          if r.val < 25 then
            (26#32, 1#32)
          else
            (38#32, 0#32)
        else
          if r.val < 27 then
            (25#32, 0#32)
          else
            (39#32, 1#32)
      else
        if r.val < 30 then
          if r.val < 29 then
            (25#32, 1#32)
          else
            (39#32, 0#32)
        else
          if r.val < 31 then
            (24#32, 0#32)
          else
            (40#32, 1#32)
def k0_dev7 (d0 : Dev nD) : Nat :=
  let c0_i32_112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_111 : BitVec 32 := 1#32
  let v156 : BitVec 32 := Scalar.muli v7 c1_i32_111
  let v157 : BitVec 32 := Scalar.addi c0_i32_112 v156
  v157.toNat
def k0_dev8 (d0 : Dev nD) : Nat :=
  let c0_i32_137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_136 : BitVec 32 := 1#32
  let v186 : BitVec 32 := Scalar.muli v5 c1_i32_136
  let v187 : BitVec 32 := Scalar.addi c0_i32_137 v186
  v187.toNat
def k0_dev9 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_161 : BitVec 32 := 1#32
  let v216 : BitVec 32 := Scalar.muli v7 c1_i32_161
  let v217 : BitVec 32 := Scalar.addi c0_i32_162 v216
  v217.toNat
def k0_dev10 (d0 : Dev nD) : Nat :=
  let c0_i32_188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_187 : BitVec 32 := 1#32
  let v246 : BitVec 32 := Scalar.muli v5 c1_i32_187
  let v247 : BitVec 32 := Scalar.addi c0_i32_188 v246
  v247.toNat
def k0_dev11 (d0 : Dev nD) : Nat :=
  let c0_i32_256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_255 : BitVec 32 := 1#32
  let v356 : BitVec 32 := Scalar.muli v7 c1_i32_255
  let v357 : BitVec 32 := Scalar.addi c0_i32_256 v356
  v357.toNat
def k0_dev12 (d0 : Dev nD) : Nat :=
  let c0_i32_281 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_280 : BitVec 32 := 1#32
  let v386 : BitVec 32 := Scalar.muli v5 c1_i32_280
  let v387 : BitVec 32 := Scalar.addi c0_i32_281 v386
  v387.toNat
def k0_dev13 (d0 : Dev nD) : Nat :=
  let c0_i32_306 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_305 : BitVec 32 := 1#32
  let v416 : BitVec 32 := Scalar.muli v7 c1_i32_305
  let v417 : BitVec 32 := Scalar.addi c0_i32_306 v416
  v417.toNat
def k0_dev14 (d0 : Dev nD) : Nat :=
  let c0_i32_332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_331 : BitVec 32 := 1#32
  let v446 : BitVec 32 := Scalar.muli v5 c1_i32_331
  let v447 : BitVec 32 := Scalar.addi c0_i32_332 v446
  v447.toNat
def k0_dev15 (d0 : Dev nD) : Nat :=
  let c0_i32_400 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_399 : BitVec 32 := 1#32
  let v556 : BitVec 32 := Scalar.muli v7 c1_i32_399
  let v557 : BitVec 32 := Scalar.addi c0_i32_400 v556
  v557.toNat
def k0_dev16 (d0 : Dev nD) : Nat :=
  let c0_i32_425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_424 : BitVec 32 := 1#32
  let v586 : BitVec 32 := Scalar.muli v5 c1_i32_424
  let v587 : BitVec 32 := Scalar.addi c0_i32_425 v586
  v587.toNat
def k0_dev17 (d0 : Dev nD) : Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_449 : BitVec 32 := 1#32
  let v616 : BitVec 32 := Scalar.muli v7 c1_i32_449
  let v617 : BitVec 32 := Scalar.addi c0_i32_450 v616
  v617.toNat
def k0_dev18 (d0 : Dev nD) : Nat :=
  let c0_i32_476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_475 : BitVec 32 := 1#32
  let v646 : BitVec 32 := Scalar.muli v5 c1_i32_475
  let v647 : BitVec 32 := Scalar.addi c0_i32_476 v646
  v647.toNat
def k0_dev19 (d0 : Dev nD) : Nat :=
  let c0_i32_544 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_543 : BitVec 32 := 1#32
  let v756 : BitVec 32 := Scalar.muli v7 c1_i32_543
  let v757 : BitVec 32 := Scalar.addi c0_i32_544 v756
  v757.toNat
def k0_dev20 (d0 : Dev nD) : Nat :=
  let c0_i32_569 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_568 : BitVec 32 := 1#32
  let v786 : BitVec 32 := Scalar.muli v5 c1_i32_568
  let v787 : BitVec 32 := Scalar.addi c0_i32_569 v786
  v787.toNat
def k0_dev21 (d0 : Dev nD) : Nat :=
  let c0_i32_594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_593 : BitVec 32 := 1#32
  let v816 : BitVec 32 := Scalar.muli v7 c1_i32_593
  let v817 : BitVec 32 := Scalar.addi c0_i32_594 v816
  v817.toNat
def k0_dev22 (d0 : Dev nD) : Nat :=
  let c0_i32_620 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_619 : BitVec 32 := 1#32
  let v846 : BitVec 32 := Scalar.muli v5 c1_i32_619
  let v847 : BitVec 32 := Scalar.addi c0_i32_620 v846
  v847.toNat
def k0_dev23 (d0 : Dev nD) : Nat :=
  let c0_i32_688 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_687 : BitVec 32 := 1#32
  let v956 : BitVec 32 := Scalar.muli v7 c1_i32_687
  let v957 : BitVec 32 := Scalar.addi c0_i32_688 v956
  v957.toNat
def k0_dev24 (d0 : Dev nD) : Nat :=
  let c0_i32_713 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_712 : BitVec 32 := 1#32
  let v986 : BitVec 32 := Scalar.muli v5 c1_i32_712
  let v987 : BitVec 32 := Scalar.addi c0_i32_713 v986
  v987.toNat
def k0_dev25 (d0 : Dev nD) : Nat :=
  let c0_i32_738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_737 : BitVec 32 := 1#32
  let v1016 : BitVec 32 := Scalar.muli v7 c1_i32_737
  let v1017 : BitVec 32 := Scalar.addi c0_i32_738 v1016
  v1017.toNat
def k0_dev26 (d0 : Dev nD) : Nat :=
  let c0_i32_764 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_763 : BitVec 32 := 1#32
  let v1046 : BitVec 32 := Scalar.muli v5 c1_i32_763
  let v1047 : BitVec 32 := Scalar.addi c0_i32_764 v1046
  v1047.toNat
def k0_dev27 (d0 : Dev nD) : Nat :=
  let c0_i32_832 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_831 : BitVec 32 := 1#32
  let v1156 : BitVec 32 := Scalar.muli v7 c1_i32_831
  let v1157 : BitVec 32 := Scalar.addi c0_i32_832 v1156
  v1157.toNat
def k0_dev28 (d0 : Dev nD) : Nat :=
  let c0_i32_857 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_856 : BitVec 32 := 1#32
  let v1186 : BitVec 32 := Scalar.muli v5 c1_i32_856
  let v1187 : BitVec 32 := Scalar.addi c0_i32_857 v1186
  v1187.toNat
def k0_dev29 (d0 : Dev nD) : Nat :=
  let c0_i32_882 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_881 : BitVec 32 := 1#32
  let v1216 : BitVec 32 := Scalar.muli v7 c1_i32_881
  let v1217 : BitVec 32 := Scalar.addi c0_i32_882 v1216
  v1217.toNat
def k0_dev30 (d0 : Dev nD) : Nat :=
  let c0_i32_908 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_907 : BitVec 32 := 1#32
  let v1246 : BitVec 32 := Scalar.muli v5 c1_i32_907
  let v1247 : BitVec 32 := Scalar.addi c0_i32_908 v1246
  v1247.toNat
def k0_dev31 (d0 : Dev nD) : Nat :=
  let c0_i32_976 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_975 : BitVec 32 := 1#32
  let v1356 : BitVec 32 := Scalar.muli v7 c1_i32_975
  let v1357 : BitVec 32 := Scalar.addi c0_i32_976 v1356
  v1357.toNat
def k0_dev32 (d0 : Dev nD) : Nat :=
  let c0_i32_1001 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1000 : BitVec 32 := 1#32
  let v1386 : BitVec 32 := Scalar.muli v5 c1_i32_1000
  let v1387 : BitVec 32 := Scalar.addi c0_i32_1001 v1386
  v1387.toNat
abbrev stage0_0 : Fin 1 → Memref sig .tc .vmem S256x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e5m2⟩
  | .local _ .vmem, ⟨1, _⟩ => ⟨S4096x8192, .fp8e5m2⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.IdealProto.lean ====
/-
# The exchange protocol of the kernel

Sixteen devices in a ring. Each holds 32 slots of 128 x 4096 numbers, two of them (`2 c`, `2 c + 1` on device `c`) its
own; the chunks travel both ways round, each forwarded at most eight hops, until every device has all 32. Every chunk is
named on a device by its *turn* `g : Fin 32`, the place at which that device multiplies it: turns 0 and 1 are the
device's own chunks, turn `w + 2` is the chunk of its `w`-th receive wait. `sl c g` is the slot of turn `g` on device `c`.

Semaphores:

* the barrier cell of `c` (two units): one from each neighbour, which hands over the slots of the neighbour that `c` is
  going to write;
* receive cell `v` of `c` (one chunk's bytes): the neighbour's transfer into slot `v`, which hands over the slot full;
* send cells (one chunk's bytes): the device's own transfer, which hands back the share of the slot lent to it.

The contents of a slot are the same on all devices (`comm`): slot `v` is half `v % 2` of the block of device `v / 2`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the rounds, beside the pipeline's. -/
abbrev GhostRounds : Type := URounds (GSem nD τ sig) Bool
abbrev Ghost : Type := UR sig nD τ × GhostRounds

local notation "𝕄" => MT nD τ sig Unit (Elt F) ℕ Ghost ℕ

abbrev EPipe : Emb (UR sig nD τ) (MT nD τ sig Unit (Elt F) ℕ Ghost ℕ) := embL
abbrev ERnd : Emb GhostRounds (MT nD τ sig Unit (Elt F) ℕ Ghost ℕ) := embR

/-! ## The ring and the order of the chunks -/

set_option backward.proofsInPublic true in
/-- The neighbour on the right. -/
def nxt (c : Dev nD) : Dev nD := ⟨(c.val + 1) % 16, Nat.mod_lt _ (by decide)⟩
set_option backward.proofsInPublic true in
/-- The neighbour on the left. -/
def prv (c : Dev nD) : Dev nD := ⟨(c.val + 15) % 16, Nat.mod_lt _ (by decide)⟩
theorem prv_nxt : ∀ c : Dev nD, prv (nxt c) = c := by decide +kernel
theorem nxt_prv : ∀ c : Dev nD, nxt (prv c) = c := by decide +kernel

/-- How far the slot of turn `g` lies beyond the device's first slot, modulo 32. -/
def rel (g : ℕ) : ℕ :=
  if g < 2 then g
  else if (g - 2) % 4 = 0 then 32 - 2 * ((g - 2) / 4 + 1)
  else if (g - 2) % 4 = 1 then 2 * ((g - 2) / 4 + 1) + 1
  else if (g - 2) % 4 = 2 then 33 - 2 * ((g - 2) / 4 + 1)
  else 2 * ((g - 2) / 4 + 1)

set_option backward.proofsInPublic true in
/-- The slot of turn `g` on device `c`. -/
def sl (c : Dev nD) (g : Fin 32) : Fin 32 := ⟨(2 * c.val + rel g.val) % 32, Nat.mod_lt _ (by decide)⟩

/-- The turn of the slot `e` beyond the device's first one. -/
def unrel (e : ℕ) : ℕ :=
  if e < 2 then e
  else if e < 16 ∧ e % 2 = 0 then 2 * e + 1
  else if e < 18 ∧ e % 2 = 1 then 2 * e - 3
  else if e % 2 = 0 then 62 - 2 * e
  else 66 - 2 * e

set_option backward.proofsInPublic true in
/-- The turn at which device `c` takes slot `v`. -/
def turn (c : Dev nD) (v : Fin 32) : Fin 32 := ⟨unrel ((v.val + 32 - 2 * c.val) % 32) % 32, Nat.mod_lt _ (by decide)⟩

theorem turn_sl : ∀ (c : Dev nD) (g : Fin 32), turn c (sl c g) = g := by decide +kernel
theorem sl_turn : ∀ (c : Dev nD) (v : Fin 32), sl c (turn c v) = v := by decide +kernel

/-- Turns and slots of a device correspond one to one. -/
def slEquiv (c : Dev nD) : Fin 32 ≃ Fin 32 := ⟨sl c, turn c, turn_sl c, sl_turn c⟩
theorem sl_inj (c : Dev nD) : Function.Injective (sl c) := (slEquiv c).injective

/-! The transfers a device issues, in order: `k : Fin 30`. -/

/-- Transfer `k` goes to the right. -/
def rt (k : Fin 30) : Bool := decide (k.val < 2) || (decide (4 ≤ k.val) && decide (k.val % 2 = 0))
set_option backward.proofsInPublic true in
/-- The turn of the chunk it sends. -/
def src (k : Fin 30) : Fin 32 := if k.val = 0 ∨ k.val = 3 then 0 else if k.val < 4 then 1 else ⟨k.val - 2, by omega⟩
set_option backward.proofsInPublic true in
/-- The turn of that chunk on the device that receives it. -/
def arr (k : Fin 30) : Fin 32 := if k.val = 0 then 2 else if k.val = 1 then 4 else if k.val = 2 then 3 else if k.val = 3 then 5 else ⟨k.val + 2, by omega⟩
/-- The place of transfer `k` among those in its direction. -/
def pos (k : Fin 30) : ℕ := if k.val < 4 then k.val % 2 else k.val / 2
/-- The place at which its send cell is waited on at the end. -/
def drain (k : Fin 30) : ℕ := (if rt k then 0 else 15) + pos k
/-- The device it goes to. -/
def tgt (c : Dev nD) (k : Fin 30) : Dev nD := if rt k then nxt c else prv c
/-- The transfer that sends turn `g` to the right (99: none), -/
def kR (g : Fin 32) : ℕ := if g.val < 2 then g.val else if g.val % 2 = 0 then g.val + 2 else 99
/-- and to the left. -/
def kL (g : Fin 32) : ℕ := if g.val = 0 then 3 else if g.val = 1 then 2 else if g.val % 2 = 1 then g.val + 2 else 99

theorem sl_tgt : ∀ (c : Dev nD) (k : Fin 30), sl (tgt c k) (arr k) = sl c (src k) := by decide +kernel
theorem two_le_arr : ∀ k : Fin 30, 2 ≤ (arr k).val := by decide
theorem arr_inj : Function.Injective arr := by decide
theorem arr_ge : ∀ k : Fin 30, 4 ≤ k.val → (arr k).val = k.val + 2 := by decide
theorem exists_arr : ∀ g : Fin 32, 2 ≤ g.val → ∃ k : Fin 30, arr k = g := by decide

/-! ## Device numbers and offsets as the kernel computes them -/

theorem off1_eq : ∀ c : Dev nD, k0_off1 c = ![(sl c 0).val, 0, 0] := by decide +kernel
theorem off2_eq : ∀ c : Dev nD, k0_off2 c = ![(sl c 1).val, 0, 0] := by decide +kernel
theorem off3_eq : ∀ (c : Dev nD) (g : Fin 32), k0_off3 c (k0_off3_at g).1 (k0_off3_at g).2 = ![(sl c g).val] := by decide +kernel
theorem off4_eq : ∀ (c : Dev nD) (g : Fin 32), k0_off4 c (k0_off4_at g).1 (k0_off4_at g).2 = ![(sl c g).val, 0, 0] := by decide +kernel
theorem off5_eq : ∀ (c : Dev nD) (g : Fin 32), k0_off5 c (k0_off5_at g).1 (k0_off5_at g).2 = ![(sl c g).val, 0, 0] := by decide +kernel
theorem off6_eq : ∀ (c : Dev nD) (g : Fin 32), k0_off6 c (k0_off6_at g).1 (k0_off6_at g).2 = ![128 * (sl c g).val, 0] := by decide +kernel

/-! ## Cells -/

abbrev barS : Sem sig := (SemArray.scalar (sig.barrier 0 rfl) : Sems sig S_).sem
set_option backward.proofsInPublic true in
/-- The send semaphore of transfer `k`. -/
def sSem (k : Fin 30) : DmaSem sig := ⟨(if rt k then 5 else 20) + pos k, by revert k; decide⟩
set_option backward.proofsInPublic true in
/-- The receive semaphore of slot `v`. -/
def rSem (v : Fin 32) : DmaSem sig := ⟨35 + v.val, by have := v.isLt; show 35 + v.val < 67; omega⟩

abbrev barCell (c : Dev nD) : GSem nD τ sig := ((c : Thread nD τ), .reg barS)
abbrev sCell (c : Dev nD) (k : Fin 30) : GSem nD τ sig := ((c : Thread nD τ), .dma (sSem k))
abbrev rCell (c : Dev nD) (v : Fin 32) : GSem nD τ sig := ((c : Thread nD τ), .dma (rSem v))

set_option backward.proofsInPublic true in
/-- The transfer whose send semaphore is number `5 + i`. -/
def kOf (i : ℕ) : Fin 30 := ⟨(if i < 2 then i else if i < 15 then 2 * i else if i < 17 then i - 13 else 2 * (i - 15) + 1) % 30, Nat.mod_lt _ (by decide)⟩
theorem kOf_sSem : ∀ k : Fin 30, kOf ((sSem k).val - 5) = k := by decide
theorem sSem_lt : ∀ k : Fin 30, (sSem k).val < 35 ∧ 5 ≤ (sSem k).val := by decide
theorem sSem_inj : Function.Injective sSem := by decide
theorem rSem_val (v : Fin 32) : (rSem v).val = 35 + v.val := rfl
set_option backward.proofsInPublic true in
/-- The slot whose receive semaphore is number `35 + i`. -/
def vOf (i : ℕ) : Fin 32 := ⟨i % 32, Nat.mod_lt _ (by decide)⟩
theorem vOf_rSem (v : Fin 32) : vOf ((rSem v).val - 35) = v := by
  apply Fin.ext; have := v.isLt; rw [rSem_val]; show (35 + v.val - 35) % 32 = v.val; omega

/-- The bytes one transfer credits. -/
abbrev chunkM (off : Fin 3 → ℕ) (inb : ∀ a, off a + S1x128x4096.size a ≤ S32x128x4096.size a) : Memref sig .tc .vmem S128x4096 .fp8e5m2 :=
  ((Memref.whole cc0_scratch0 : Memref sig .tc .vmem S32x128x4096 .fp8e5m2).slice (Rect.unit (s := S32x128x4096) off S1x128x4096.size inb) (fun _ => rfl)).squeeze
    S128x4096 squeezes_S1x128x4096_S128x4096

theorem inb0 : ∀ a, (![0, 0, 0] : Fin 3 → ℕ) a + S1x128x4096.size a ≤ S32x128x4096.size a := by decide
abbrev N : ℕ := (chunkM ![0, 0, 0] inb0).view.dmaCredit
theorem N_pos : 0 < N := View.dmaCredit_pos _ (by decide)
theorem credit_eq (off inb) : (chunkM off inb).view.dmaCredit = N := rfl

/-! ## Contents -/

variable (m : (ℓ : Loc nD τ sig) → Buf (Elt F) ℓ) (ρ : Dev nD → PrngReg)

/-- The memory the launch starts from. -/
def s₀ : MemSt nD τ sig (Elt F) := ⟨m, fun _ => 0, ρ⟩

/-- Device `c`'s block of the left operand, of the right operand, and the two scales. -/
def xstg (c : Dev nD) : (cc0_stg0_0 : Ref sig .tc).ty.Contents (Elt F) := (win0_0.blk (0 : Fin 1)).view.read (Elt F) ((s₀ m ρ).mem ((c : Thread nD τ).loc main_arg0))
def wstg (c : Dev nD) : (cc0_stg1_0 : Ref sig .tc).ty.Contents (Elt F) := (win0_1.blk (0 : Fin 1)).view.read (Elt F) ((s₀ m ρ).mem ((c : Thread nD τ).loc main_arg1))
def sxstg (c : Dev nD) : (cc0_stg2_0 : Ref sig .tc).ty.Contents (Elt F) := (win0_2.blk (0 : Fin 1)).view.read (Elt F) ((s₀ m ρ).mem ((c : Thread nD τ).loc main_arg2))
def swstg (c : Dev nD) : (cc0_stg3_0 : Ref sig .tc).ty.Contents (Elt F) := (win0_3.blk (0 : Fin 1)).view.read (Elt F) ((s₀ m ρ).mem ((c : Thread nD τ).loc main_arg3))

set_option backward.proofsInPublic true in
/-- Slot `v`, row `i`, column `j`: row `128 (v % 2) + i` of the block of device `v / 2`. -/
def comm : (cc0_scratch0 : Ref sig .tc).ty.Contents (Elt F) := fun i : S32x128x4096.Idx =>
  xstg m ρ ⟨(i 0).val / 2, by have h : (i 0).val < 32 := (i 0).isLt; show (i 0).val / 2 < 16; omega⟩
    (Shape.pair (d := ![256, 4096]) ⟨(i 0).val % 2 * 128 + (i 1).val, by have h : (i 1).val < 128 := (i 1).isLt; show _ < 256; omega⟩ (i 2))

set_option backward.proofsInPublic true in
/-- Slot `v` as the kernel loads it. -/
def chunk (v : Fin 32) : Vec F S1x128x4096 .fp8e5m2 := fun j : S1x128x4096.Idx =>
  comm m ρ (fun a => match a with | ⟨0, _⟩ => v | ⟨1, _⟩ => j 1 | ⟨2, _⟩ => j 2 : S32x128x4096.Idx)

set_option backward.proofsInPublic true in
/-- The one index of a scale. -/
def ix1 : S1.Idx := fun a => ⟨0, by revert a; decide⟩

/-- The product of the two scales, and the device's block of the right operand as the kernel keeps it. -/
def scale (c : Dev nD) : F .f32 := k0_pay4 (sxstg m ρ c ix1) (swstg m ρ c ix1)
def wkeep (c : Dev nD) : Vec F S4096x512 .fp8e5m2 := k0_pay3 (wstg m ρ c)
/-- The block of the result that chunk `v` gives on device `c`. -/
def tile (c : Dev nD) (v : Fin 32) : FVec F S128x512 .f32 := k0_pay5 (scale m ρ c) (chunk m ρ v) (wkeep m ρ c)

set_option backward.proofsInPublic true in
/-- The result of device `c`: rows `128 v` up to `128 v + 127` are the block of chunk `v`. -/
def outF (c : Dev nD) : (cc0_stg4_0 : Ref sig .tc).ty.Contents (Elt F) := fun i : S4096x512.Idx =>
  tile m ρ c ⟨(i 0).val / 128, by have h : (i 0).val < 4096 := (i 0).isLt; omega⟩
    (Shape.pair (d := ![128, 512]) ⟨(i 0).val % 128, Nat.mod_lt _ (by decide)⟩ (i 1))

/-! ## Slots as sets of elements; shares -/

/-- The elements of slot `v`. -/
def slot (v : Fin 32) : Finset S32x128x4096.Idx := Finset.univ.filter fun i => (i 0).val = v.val
theorem mem_slot {v : Fin 32} {i : S32x128x4096.Idx} : i ∈ slot v ↔ (i 0).val = v.val := by simp [slot]

/-- Slot `v` of device `c` at share `q`. -/
def slPts (c : Dev nD) (v : Fin 32) (q : PosShare TreeShare) (f : (cc0_scratch0 : Ref sig .tc).ty.Contents (Elt F)) : sProp 𝕄 :=
  ((c : Thread nD τ).loc cc0_scratch0) ↦[slot v]{q} f

instance slPts_storable (c : Dev nD) (v q f) : BI.Storable (upEmb : UEmb _ 𝕄) (slPts (F := F) c v q f) := by unfold slPts; infer_instance

/-- The share lent to a transfer to the right, to a transfer to the left, and the one kept for the device's own reads. -/
abbrev qR : PosShare TreeShare := fullShare.left
abbrev qL : PosShare TreeShare := fullShare.right.left
abbrev qO : PosShare TreeShare := fullShare.right.right
abbrev qOf (k : Fin 30) : PosShare TreeShare := if rt k then qR else qL

theorem slPts_split (c : Dev nD) (v f) : slPts (F := F) c v fullShare f ⊣⊢ iprop(slPts c v qR f ∗ slPts c v qL f ∗ slPts c v qO f) := by
  unfold slPts
  refine ⟨(pointsTo_share (PosShare.mem_left_op_right fullShare)).1.trans (sep_mono_right (pointsTo_share (PosShare.mem_left_op_right fullShare.right)).1),
    (sep_mono_right (pointsTo_share (PosShare.mem_left_op_right fullShare.right)).2).trans (pointsTo_share (PosShare.mem_left_op_right fullShare)).2⟩

/-! ## The schedule -/

/-- The slot transfer `k` of `c` is going to write, held whole, at whatever it contains. -/
def dstPts (c : Dev nD) (k : Fin 30) : sProp 𝕄 := iprop(∃ f, slPts (tgt c k) (sl c (src k)) fullShare f)
/-- What `nxt c` hands `c` at the barrier, and what `prv c` hands it. -/
def barPay (c : Dev nD) (d : Bool) : sProp 𝕄 := bigSep (Finset.univ.filter fun k => rt k = d) fun k => dstPts (F := F) c k
/-- What a send cell hands back. -/
def lent (c : Dev nD) (k : Fin 30) : sProp 𝕄 := slPts c (sl c (src k)) (qOf k) (comm m ρ)

instance dstPts_storable (c : Dev nD) (k) : BI.Storable (upEmb : UEmb _ 𝕄) (dstPts (F := F) c k) := by unfold dstPts; infer_instance
instance barPay_storable (c : Dev nD) (d) : BI.Storable (upEmb : UEmb _ 𝕄) (barPay (F := F) c d) := by unfold barPay; infer_instance
instance lent_storable (c : Dev nD) (k) : BI.Storable (upEmb : UEmb _ 𝕄) (lent (F := F) m ρ c k) := by unfold lent; infer_instance

/-- The cells of one transfer each: the send cells, and the receive cells but the device's own two. -/
def IsMove (c : Dev nD) (sm : SemLoc sig) : Prop := match sm with | .dma q => 5 ≤ q.val ∧ ¬ q.val = 35 + (sl c 0).val ∧ ¬ q.val = 35 + (sl c 1).val | _ => False
instance (c : Dev nD) (sm : SemLoc sig) : Decidable (IsMove c sm) := Classical.propDecidable _

def movePay (c : Dev nD) (sm : SemLoc sig) : sProp 𝕄 := match sm with
  | .dma q => if q.val < 35 then lent m ρ c (kOf (q.val - 5)) else slPts c (vOf (q.val - 35)) fullShare (comm m ρ)
  | _ => iprop(emp)
instance movePay_storable (c : Dev nD) (sm) : BI.Storable (upEmb : UEmb _ 𝕄) (movePay (F := F) m ρ c sm) := by
  unfold movePay; (repeat' split) <;> infer_instance

/-- One round: two duties of one unit on a barrier cell, one of a chunk's bytes on a transfer's. -/
def plan : Rounds.Schedule (GSem nD τ sig) Bool 𝕄 where
  duties g r := if r = 0 ∧ g.1.2 = .tc ∧ g.2 = .reg barS then Finset.univ else if r = 0 ∧ g.1.2 = .tc ∧ IsMove g.1.1 g.2 then {false} else ∅
  unitless _ := False
  amount g _ _ := if g.2 = .reg barS then 1 else N
  payload g _ d := if g.2 = .reg barS then barPay g.1.1 d else movePay m ρ g.1.1 g.2
  amount_pos g _ _ _ := by
    by_cases h : g.2 = .reg barS
    · rw [if_pos h]; exact Nat.one_pos
    · rw [if_neg h]; exact N_pos

instance plan_storable (g : GSem nD τ sig) (r : ℕ) (d : Bool) : BI.Storable (upEmb : UEmb _ 𝕄) ((plan (F := F) m ρ).payload g r d) := by
  show BI.Storable upEmb (if g.2 = .reg barS then barPay g.1.1 d else movePay m ρ g.1.1 g.2)
  split <;> infer_instance

theorem move_send (c : Dev nD) (k : Fin 30) : IsMove c (.dma (sSem k)) := by
  have h := sSem_lt k; exact ⟨h.2, by omega, by omega⟩
theorem move_recv (c : Dev nD) (g : Fin 32) (hg : 2 ≤ g.val) : IsMove c (.dma (rSem (sl c g))) := by
  have h (g' : Fin 32) (h' : g'.val < 2) : ¬ 35 + (sl c g).val = 35 + (sl c g').val := fun e =>
    absurd (sl_inj c (Fin.ext (Nat.add_left_cancel e))) (fun e' => by rw [e'] at hg; omega)
  exact ⟨by rw [rSem_val]; omega, h 0 (by decide), h 1 (by decide)⟩
theorem own_not_move : ∀ (c : Dev nD) (g : Fin 32), g.val < 2 → ¬ IsMove c (.dma (rSem (sl c g))) := by
  intro c g hg h
  have : g = 0 ∨ g = 1 := by have := g.isLt; rcases Nat.lt_succ_iff_lt_or_eq.mp hg with h | h
                             · exact .inl (Fin.ext (by simp; omega))
                             · exact .inr (Fin.ext h)
  rcases this with rfl | rfl
  · exact h.2.1 rfl
  · exact h.2.2 rfl

theorem duties_bar (c : Dev nD) : (plan (F := F) m ρ).duties (barCell c) 0 = Finset.univ := by dsimp only [plan]; exact if_pos ⟨rfl, rfl, rfl⟩
theorem duties_move (c : Dev nD) (sm : SemLoc sig) (h : IsMove c sm) : (plan (F := F) m ρ).duties ((c : Thread nD τ), sm) 0 = {false} := by
  dsimp only [plan]; rw [if_neg (fun h' => by rw [h'.2.2] at h; exact h)]
  exact if_pos ⟨rfl, rfl, h⟩
theorem duties_none (c : Dev nD) (q : DmaSem sig) (h : ¬ IsMove c (.dma q)) (r : ℕ) : (plan (F := F) m ρ).duties ((c : Thread nD τ), .dma q) r = ∅ := by
  dsimp only [plan]; rw [if_neg (fun h' => by cases h'.2.2), if_neg fun h' => h h'.2.2]
theorem duties_later (g : GSem nD τ sig) : ∀ r, 1 ≤ r → (plan (F := F) m ρ).duties g r = ∅ :=
  fun r hr => by dsimp only [plan]; rw [if_neg fun h => by omega, if_neg fun h => by omega]
theorem amount_bar (c : Dev nD) (d : Bool) : (plan (F := F) m ρ).amount (barCell c) 0 d = 1 := by dsimp only [plan]; exact if_pos rfl
theorem amount_move (c : Dev nD) (q : DmaSem sig) (d : Bool) : (plan (F := F) m ρ).amount ((c : Thread nD τ), .dma q) 0 d = N := by
  dsimp only [plan]; exact if_neg (fun h => by cases h)
theorem expect_bar (c : Dev nD) : (plan (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_move (c : Dev nD) (q : DmaSem sig) (h : IsMove c (.dma q)) : (plan (F := F) m ρ).expect ((c : Thread nD τ), .dma q) 0 = N := by
  unfold Schedule.expect Schedule.amountOf; rw [duties_move m ρ c _ h, Finset.sum_singleton, amount_move]
theorem payload_bar (c : Dev nD) (d : Bool) : (plan (F := F) m ρ).payload (barCell c) 0 d = barPay c d := by dsimp only [plan]; exact if_pos rfl
theorem payload_move (c : Dev nD) (q : DmaSem sig) (d : Bool) : (plan (F := F) m ρ).payload ((c : Thread nD τ), .dma q) 0 d = movePay m ρ c (.dma q) := by
  dsimp only [plan]; exact if_neg (fun h => by cases h)
theorem movePay_send (c : Dev nD) (k : Fin 30) : movePay (F := F) m ρ c (.dma (sSem k)) = lent m ρ c k := by
  show (if (sSem k).val < 35 then lent m ρ c (kOf ((sSem k).val - 5)) else _) = _
  rw [if_pos (sSem_lt k).1, kOf_sSem]
theorem movePay_recv (c : Dev nD) (v : Fin 32) : movePay (F := F) m ρ c (.dma (rSem v)) = slPts c v fullShare (comm m ρ) := by
  show (if (rSem v).val < 35 then _ else slPts c (vOf ((rSem v).val - 35)) fullShare (comm m ρ)) = _
  rw [if_neg (by rw [rSem_val]; omega), vOf_rSem]

/-- The whole barrier round hands a device the destinations of all its transfers. -/
theorem rest_bar (c : Dev nD) : bigSep ((plan (F := F) m ρ).duties (barCell c) 0 \ ∅) (fun d => (plan (F := F) m ρ).payload (barCell c) 0 d)
    = bigSep Finset.univ fun k => dstPts (F := F) c k := by
  rw [Finset.sdiff_empty, duties_bar, bigSep_congr fun d _ => payload_bar m ρ c d,
    bigSep_univ_eq_bigSepL [true, false] (by decide) (by decide), bigSepL_cons_cons, bigSepL_singleton, bigSep_filter_split Finset.univ (fun k => rt k = true)]
  unfold barPay
  rw [show (Finset.univ.filter fun k => ¬ rt k = true) = Finset.univ.filter fun k => rt k = false from Finset.filter_congr fun k _ => by simp]
theorem rest_move (c : Dev nD) (q : DmaSem sig) (h : IsMove c (.dma q)) :
    bigSep ((plan (F := F) m ρ).duties ((c : Thread nD τ), .dma q) 0 \ ∅) (fun d => (plan (F := F) m ρ).payload ((c : Thread nD τ), .dma q) 0 d)
      = movePay m ρ c (.dma q) := by
  rw [Finset.sdiff_empty, duties_move m ρ c _ h, bigSep_singleton, payload_move]

/-! ## What a device owes; the levels -/

/-- What device `c` owes from transfer `n` on: a chunk's bytes to the receive cell of each. -/
def Ow (c : Dev nD) (n : ℕ) : CellTallies nD τ sig Unit := ∑ k ∈ Finset.univ.filter (fun k : Fin 30 => n ≤ k.val), tallyAt (rCell (tgt c k) (sl c (src k))) () N
/-- And at launch, with the two barrier units. -/
def O₁ (c : Dev nD) : CellTallies nD τ sig Unit := Ow c 0 + tallyAt (barCell (nxt c)) () 1
def O₀ (c : Dev nD) : CellTallies nD τ sig Unit := O₁ c + tallyAt (barCell (prv c)) () 1

theorem Ow_step (c : Dev nD) (k : Fin 30) : Ow c k.val = Ow c (k.val + 1) + tallyAt (rCell (tgt c k) (sl c (src k))) () N := by
  unfold Ow
  rw [show (Finset.univ.filter fun k' : Fin 30 => k.val ≤ k'.val) = insert k (Finset.univ.filter fun k' : Fin 30 => k.val + 1 ≤ k'.val) from
    Finset.ext fun x => by simp only [Finset.mem_filter, Finset.mem_univ, true_and, Finset.mem_insert, Fin.ext_iff]; omega,
    Finset.sum_insert (by simp), add_comm]
theorem Ow_last (c : Dev nD) : Ow c 30 = 0 := by
  unfold Ow
  rw [Finset.filter_false_of_mem (fun k _ => by have := k.isLt; omega), Finset.sum_empty]

def L (g : GSem nD τ sig) : Finset Unit := if g.1.2 = .tc then {()} else ∅
/-- Barrier cells lowest, then the receive cells in the order of their turns on their device. -/
def lv (g : GSem nD τ sig) (_ : Unit) : ℕ := match g.2 with
  | .reg _ => 1
  | .dma q => if q.val < 35 then 0 else 2 + (turn g.1.1 (vOf (q.val - 35))).val

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (g : Fin 32) : lv (rCell c (sl c g)) () = 2 + g.val := by
  show (if (rSem (sl c g)).val < 35 then 0 else 2 + (turn c (vOf ((rSem (sl c g)).val - 35))).val) = _
  rw [if_neg (by rw [rSem_val]; omega), vOf_rSem, turn_sl]

theorem Ow_pos {c : Dev nD} {n : ℕ} {g : GSem nD τ sig} {u : Unit} (h : 0 < Ow c n g u) : ∃ k : Fin 30, n ≤ k.val ∧ g = rCell (tgt c k) (sl (tgt c k) (arr k)) := by
  unfold Ow at h
  rw [Finset.sum_apply, Finsupp.finset_sum_apply] at h
  obtain ⟨k, hk, hne⟩ := Finset.exists_ne_zero_of_sum_ne_zero (Nat.pos_iff_ne_zero.mp h)
  refine ⟨k, (Finset.mem_filter.mp hk).2, ?_⟩
  rw [tallyAt_apply] at hne
  rw [sl_tgt]
  by_contra hn
  exact hne (if_neg fun h' => hn h'.1)
theorem O₀_pos {c : Dev nD} {g : GSem nD τ sig} {u : Unit} (h : 0 < O₀ c g u) :
    (∃ k : Fin 30, 0 ≤ k.val ∧ g = rCell (tgt c k) (sl (tgt c k) (arr k))) ∨ g = barCell (nxt c) ∨ g = barCell (prv c) := by
  have e : O₀ c g u = Ow c 0 g u + tallyAt (barCell (nxt c)) () 1 g u + tallyAt (barCell (prv c)) () 1 g u := rfl
  rw [e, tallyAt_apply, tallyAt_apply] at h
  by_cases h₁ : g = barCell (nxt c)
  · exact .inr (.inl h₁)
  by_cases h₂ : g = barCell (prv c)
  · exact .inr (.inr h₂)
  simp only [h₁, h₂, false_and, if_false, Nat.add_zero] at h
  exact .inl (Ow_pos (c := c) (n := 0) (g := g) (u := u) h)

/-- A staging or send cell is waited on below everything owed. -/
theorem mayWait_low (c : Dev nD) (q : DmaSem sig) (hq : q.val < 35) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, -, rfl⟩ | rfl | rfl <;> exact Finset.mem_singleton_self _)
      (fun p hp => by rw [Finset.mem_singleton.mp hp]; show (if q.val < 35 then 0 else _) ≤ 0; rw [if_pos hq])
      (fun g u hg => by
        rcases O₀_pos hg with ⟨k, -, rfl⟩ | rfl | rfl
        · rw [lv_recv]; omega
        · exact Nat.one_pos
        · exact Nat.one_pos)
  · rw [MayWait_zero]; iintro -; iempintro
/-- The barrier cell, owing every transfer. -/
theorem mayWait_bar (c : Dev nD) : (levAts L lv : sProp 𝕄) ⊢ MayWait (c : Thread nD τ) (.reg barS) () (Ow c 0) :=
  MayOwe.of_cut (L := L) (lev := lv) 1 (fun p hp => by rw [Finset.mem_singleton.mp hp, L_tc]; exact Finset.mem_singleton_self _)
    (fun g u hg => by obtain ⟨k, -, rfl⟩ := Ow_pos hg; exact Finset.mem_singleton_self _)
    (fun p hp => by rw [Finset.mem_singleton.mp hp]; exact Nat.le_refl _)
    (fun g u hg => by obtain ⟨k, -, rfl⟩ := Ow_pos hg; rw [lv_recv]; omega)
/-- The receive cell of turn `g`, owing the transfers that arrive at later turns. -/
theorem mayWait_recv (c : Dev nD) (g : Fin 32) (n : ℕ) (hn : ∀ k : Fin 30, n ≤ k.val → g.val < (arr k).val) :
    (levAts L lv : sProp 𝕄) ⊢ MayWait (c : Thread nD τ) (.dma (rSem (sl c g))) () (Ow c n) :=
  MayOwe.of_cut (L := L) (lev := lv) (2 + g.val) (fun p hp => by rw [Finset.mem_singleton.mp hp, L_tc]; exact Finset.mem_singleton_self _)
    (fun g' u hg => by obtain ⟨k, -, rfl⟩ := Ow_pos hg; exact Finset.mem_singleton_self _)
    (fun p hp => by rw [Finset.mem_singleton.mp hp]; exact le_of_eq (lv_recv c g))
    (fun g' u hg => by obtain ⟨k, hk, rfl⟩ := Ow_pos hg; have := hn k hk; rw [lv_recv]; omega)

end Cert.KernelIdealProof
-- ==== Proof.IdealGeom.lean ====
/-
# The kernel's views, semaphores and devices in terms of the protocol's

What the rectangles of the kernel's loads, stores and transfers cover, what they read and write, and which semaphore and
which device each transfer names.
-/
module

public import proofs.«01_k».proof.Proof.IdealProto
public import Idealize.ShloMosaic.Lib.ViewIndex
public import Idealize.ShloMosaic.Lib.Pipeline.Value

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Ghost ℕ

/-! ## Devices and semaphores -/

theorem devL_eq : ∀ c : Dev nD, k0_dev5 c = (prv c).val := by decide +kernel
theorem devR_eq : ∀ c : Dev nD, k0_dev3 c = (nxt c).val := by decide +kernel
theorem dev1_eq : ∀ c : Dev nD, k0_dev1 c = (prv c).val := by decide +kernel
theorem dev2_eq : ∀ c : Dev nD, k0_dev2 c = (nxt c).val := by decide +kernel

/-- The semaphore a one-element slice of a row of consecutive ones names. -/
theorem sem_slice {d : Fin 1 → ℕ} (base : ℕ) (h : base + (⟨1, d⟩ : Shape).numel ≤ 67) (off : Fin 1 → ℕ) (n : ℕ) (hn : off = ![n]) (inb) (hs) :
    (((SemArray.consecutive base ⟨1, d⟩ h : DmaSems sig ⟨1, d⟩).slice (Rect.unit (s := ⟨1, d⟩) off S1.size inb)).squeeze S_ hs).sem.val = base + n := by
  subst hn
  show base + ((⟨1, d⟩ : Shape).rowMajor _).val = base + n
  congr 1
  rw [Shape.rowMajor_val_one]
  have e : ∀ y : S1.Idx, n + 1 * (y 0).val = n := fun y => by have h : (y 0).val < 1 := (y 0).isLt; omega
  exact e _

theorem rSem_eq (v : Fin 32) (off : Fin 1 → ℕ) (hoff : off = ![v.val]) (inb) (hs) :
    ((cc0_scratch4.slice (Rect.unit (s := S32) off S1.size inb)).squeeze S_ hs).sem = rSem v :=
  Fin.ext ((sem_slice 35 _ off v.val hoff inb hs).trans (rSem_val v).symm)
theorem sSemR_eq (k : Fin 30) (n : ℕ) (hk : rt k = true ∧ pos k = n) (inb) (hs) :
    ((cc0_scratch2.slice (Rect.unit (s := S15) ![n] S1.size inb)).squeeze S_ hs).sem = sSem k :=
  Fin.ext ((sem_slice 5 _ _ n rfl inb hs).trans (by show _ = (if rt k then 5 else 20) + pos k; rw [hk.1, hk.2]; rfl))
theorem sSemL_eq (k : Fin 30) (n : ℕ) (hk : rt k = false ∧ pos k = n) (inb) (hs) :
    ((cc0_scratch3.slice (Rect.unit (s := S15) ![n] S1.size inb)).squeeze S_ hs).sem = sSem k :=
  Fin.ext ((sem_slice 20 _ _ n rfl inb hs).trans (by show _ = (if rt k then 5 else 20) + pos k; rw [hk.1, hk.2]; rfl))

/-! ## The slots -/

abbrev commM : Memref sig .tc .vmem S32x128x4096 .fp8e5m2 := Memref.whole cc0_scratch0
abbrev w8M : Memref sig .tc .vmem S4096x512 .fp8e5m2 := Memref.whole cc0_scratch1
abbrev outM : Memref sig .tc .vmem S4096x512 .f32 := Memref.whole cc0_stg4_0

/-- The elements the rectangle at slot `v` covers. -/
theorem set_slot (v : Fin 32) (off : Fin 3 → ℕ) (hoff : off = ![v.val, 0, 0]) (inb) :
    (Rect.unit (s := S32x128x4096) off S1x128x4096.size inb).set = slot v := by
  subst hoff
  ext i
  rw [Rect.mem_set_unit, mem_slot]
  constructor
  · intro h; have := h 0; simp at this; omega
  · intro h a
    have h1 : (i 1).val < 128 := (i 1).isLt
    have h2 : (i 2).val < 4096 := (i 2).isLt
    match a with
    | ⟨0, _⟩ => show v.val ≤ (i 0).val ∧ (i 0).val < v.val + 1; omega
    | ⟨1, _⟩ => show 0 ≤ (i 1).val ∧ (i 1).val < 0 + 128; omega
    | ⟨2, _⟩ => show 0 ≤ (i 2).val ∧ (i 2).val < 0 + 4096; omega

theorem chunkM_set (v : Fin 32) (off : Fin 3 → ℕ) (hoff : off = ![v.val, 0, 0]) (inb) : (chunkM off inb).view.set = slot v := by
  show (((View.whole cc0_scratch0).slice _).reshape _ _).set = _
  rw [View.set_reshape, View.set_slice_whole]
  exact set_slot v off hoff inb

theorem setOn_slot (v : Fin 32) (off : Fin 3 → ℕ) (hoff : off = ![v.val, 0, 0]) (inb) :
    commM.view.setOn (Rect.unit (s := S32x128x4096) off S1x128x4096.size inb).toLoadRect.set = slot v := by
  rw [← set_slot v off hoff inb]
  exact (View.set_slice (View.whole cc0_scratch0) (Rect.unit (s := S32x128x4096) off S1x128x4096.size inb)).symm.trans (View.set_slice_whole cc0_scratch0 _)

theorem access_slot (v : Fin 32) (off : Fin 3 → ℕ) (hoff : off = ![v.val, 0, 0]) (inb) :
    (commM.access (Rect.unit (s := S32x128x4096) off S1x128x4096.size inb)).set = slot v :=
  (View.set_slice_whole cc0_scratch0 _).trans (set_slot v off hoff inb)

/-- What a slot's load reads off the common contents. -/
theorem read_slot (m : (ℓ : Loc nD τ sig) → Buf (Elt F) ℓ) (ρ : Dev nD → PrngReg) (v : Fin 32) (off : Fin 3 → ℕ) (hoff : off = ![v.val, 0, 0]) (inb) :
    commM.view.readAt (Elt F) (Rect.unit (s := S32x128x4096) off S1x128x4096.size inb).toLoadRect (comm m ρ) = chunk m ρ v := by
  subst hoff
  funext (j : S1x128x4096.Idx)
  show comm m ρ _ = comm m ρ _
  refine congrArg (comm m ρ) (Shape.idx3_ext (d := ![32, 128, 4096]) ?_ ?_ ?_)
  · have h : (j 0).val < 1 := (j 0).isLt
    show v.val + 1 * (j 0).val = v.val; omega
  · show 0 + 1 * (j 1).val = (j 1).val; omega
  · show 0 + 1 * (j 2).val = (j 2).val; omega

/-- The stored chunk as a slot. -/
theorem pay1_at (w : Vec F S128x4096 .fp8e5m2) (x : S1x128x4096.Idx) (p : S128x4096.Idx) (h0 : (p 0).val = (x 1).val) (h1 : (p 1).val = (x 2).val) :
    k0_pay1 w x = w p := by
  have e : k0_pay1 w = shapeCast S1x128x4096 w shapeCasts_S128x4096_S1x128x4096 := by
    unfold k0_pay1; exact congrArg (fun y => shapeCast S1x128x4096 y shapeCasts_S128x4096_S1x128x4096) (shapeCast_self _ _)
  rw [e]
  refine shapeCast_apply _ _ x p ?_
  have hx0 : (x 0).val < 1 := (x 0).isLt
  rw [Shape.rowMajor_val_two, Shape.rowMajor_val_three]
  show (p 0).val * 4096 + (p 1).val = ((x 0).val * 128 + (x 1).val) * 4096 + (x 2).val
  rw [h0, h1]; omega

/-- A slot of the device's own after its store. -/
theorem own_slot (m : (ℓ : Loc nD τ sig) → Buf (Elt F) ℓ) (ρ : Dev nD → PrngReg) (c : Dev nD) (t : Fin 32) (ht : t.val < 2)
    (off : Fin 3 → ℕ) (hoff : off = ![(sl c t).val, 0, 0]) (inb) (o : Fin 2 → ℕ) (ho : o = ![128 * t.val, 0]) (inb')
    (f : (cc0_scratch0 : Ref sig .tc).ty.Contents (Elt F)) :
    ∀ i ∈ slot (sl c t), (commM.access (Rect.unit (s := S32x128x4096) off S1x128x4096.size inb)).write (Elt F) f
      (k0_pay1 ((Memref.whole cc0_stg0_0 : Memref sig .tc .vmem S256x4096 .fp8e5m2).view.readAt (Elt F)
        (Rect.unit (s := S256x4096) o S128x4096.size inb').toLoadRect (xstg m ρ c))) Finset.univ i = comm m ρ i := by
  intro i hi
  rw [← access_slot _ off hoff inb] at hi
  obtain ⟨x, -, rfl⟩ := Finset.mem_map.mp hi
  refine (View.write_emb _ _ _ _).trans ?_
  rw [if_pos (Finset.mem_univ x)]
  refine (cast_eq _ _).trans ?_
  subst hoff ho
  change S1x128x4096.Idx at x
  have hc : c.val < 16 := c.isLt
  have hv : (sl c t).val = 2 * c.val + t.val := by
    show (2 * c.val + rel t.val) % 32 = _
    unfold rel; rw [if_pos ht]; omega
  have hx0 : (x 0).val < 1 := (x 0).isLt
  have hx1 : (x 1).val < 128 := (x 1).isLt
  have hx2 : (x 2).val < 4096 := (x 2).isLt
  refine (pay1_at _ x (Shape.pair (d := ![128, 4096]) (x 1) (x 2)) rfl rfl).trans ?_
  show xstg m ρ c _ = xstg m ρ _ _
  have e : (⟨((sl c t).val + 1 * (x 0).val) / 2, by omega⟩ : Dev nD) = c := Fin.ext (by show ((sl c t).val + 1 * (x 0).val) / 2 = c.val; omega)
  refine Eq.trans ?_ (congrFun (congrArg (xstg m ρ) e.symm) _)
  refine congrArg (xstg m ρ c) (Shape.idx_ext₂ (n := ![256, 4096]) ?_ ?_)
  · show 128 * t.val + 1 * (x 1).val = ((sl c t).val + 1 * (x 0).val) % 2 * 128 + (0 + 1 * (x 1).val)
    omega
  · show 0 + 1 * (x 2).val = 0 + 1 * (x 2).val
    rfl

/-- A transfer between slots of one number carries the contents over. -/
theorem landed (v : Fin 32) (off : Fin 3 → ℕ) (hoff : off = ![v.val, 0, 0]) (inb) (f g : (cc0_scratch0 : Ref sig .tc).ty.Contents (Elt F)) :
    ∀ i ∈ slot v, (chunkM off inb).view.write (Elt F) g ((chunkM off inb).view.read (Elt F) f) Finset.univ i = f i := by
  intro i hi
  rw [← chunkM_set v off hoff inb] at hi
  obtain ⟨x, -, rfl⟩ := Finset.mem_map.mp hi
  exact (View.write_emb _ _ _ _).trans (by rw [if_pos (Finset.mem_univ x)]; rfl)

/-! ## The whole buffers -/

theorem zero2 : (![0, 0] : Fin 2 → ℕ) = fun _ => 0 := funext fun a => by fin_cases a <;> rfl

theorem read_w8 (f : (cc0_scratch1 : Ref sig .tc).ty.Contents (Elt F)) (inb) :
    w8M.view.readAt (Elt F) (Rect.unit (s := S4096x512) ![0, 0] S4096x512.size inb).toLoadRect f = f :=
  Memref.readAt_unit_zero (Elt F) cc0_scratch1 zero2 _ _
theorem write_w8 (f w : (cc0_scratch1 : Ref sig .tc).ty.Contents (Elt F)) (inb) :
    (w8M.access (Rect.unit (s := S4096x512) ![0, 0] S4096x512.size inb)).write (Elt F) f w Finset.univ = w :=
  Memref.write_access_unit_zero_univ (Elt F) cc0_scratch1 zero2 _ f w
theorem read_w (f : (cc0_stg1_0 : Ref sig .tc).ty.Contents (Elt F)) (inb) :
    (Memref.whole cc0_stg1_0 : Memref sig .tc .vmem S4096x512 .fp8e5m2).view.readAt (Elt F) (Rect.unit (s := S4096x512) ![0, 0] S4096x512.size inb).toLoadRect f = f :=
  Memref.readAt_unit_zero (Elt F) cc0_stg1_0 zero2 _ _

/-- The result after the tiles of the turns before `n`: those tiles are there. -/
def Done (m : (ℓ : Loc nD τ sig) → Buf (Elt F) ℓ) (ρ : Dev nD → PrngReg) (c : Dev nD) (n : ℕ) (f : (cc0_stg4_0 : Ref sig .tc).ty.Contents (Elt F)) : Prop :=
  ∀ g : Fin 32, g.val < n → ∀ i : S4096x512.Idx, (i 0).val / 128 = (sl c g).val → f i = outF m ρ c i

theorem done_zero (m : (ℓ : Loc nD τ sig) → Buf (Elt F) ℓ) (ρ : Dev nD → PrngReg) (c : Dev nD) (f) : Done m ρ c 0 f := fun g hg => absurd hg (Nat.not_lt_zero _)

theorem done_all (m : (ℓ : Loc nD τ sig) → Buf (Elt F) ℓ) (ρ : Dev nD → PrngReg) (c : Dev nD) (f) (h : Done m ρ c 32 f) : f = outF m ρ c := by
  funext (i : S4096x512.Idx)
  have hi : (i 0).val < 4096 := (i 0).isLt
  exact h (turn c ⟨(i 0).val / 128, by omega⟩) (turn c _).isLt i (by rw [sl_turn])

/-- The store of turn `g`'s tile. -/
theorem done_store (m : (ℓ : Loc nD τ sig) → Buf (Elt F) ℓ) (ρ : Dev nD → PrngReg) (c : Dev nD) (g : Fin 32) (f) (h : Done m ρ c g.val f)
    (off : Fin 2 → ℕ) (hoff : off = ![128 * (sl c g).val, 0]) (inb) :
    Done m ρ c (g.val + 1) ((outM.access (Rect.unit (s := S4096x512) off S128x512.size inb)).write (Elt F) f (tile m ρ c (sl c g)) Finset.univ) := by
  intro g' hg' i hi
  by_cases e : g' = g
  · subst e
    have hi1 : (i 1).val < 512 := (i 1).isLt
    have hm : i ∈ (outM.access (Rect.unit (s := S4096x512) off S128x512.size inb)).set := by
      rw [show (outM.access (Rect.unit (s := S4096x512) off S128x512.size inb)).set = (Rect.unit (s := S4096x512) off S128x512.size inb).set from View.set_slice_whole cc0_stg4_0 _,
        Rect.mem_set_unit]
      subst hoff
      intro a
      match a with
      | ⟨0, _⟩ => show 128 * (sl c g').val ≤ (i 0).val ∧ (i 0).val < 128 * (sl c g').val + 128; omega
      | ⟨1, _⟩ => show 0 ≤ (i 1).val ∧ (i 1).val < 0 + 512; omega
    obtain ⟨x, -, hx⟩ := Finset.mem_map.mp hm
    subst hoff
    change S128x512.Idx at x
    have hx0 : (x 0).val < 128 := (x 0).isLt
    rw [← hx]
    refine (View.write_emb _ _ _ _).trans ?_
    rw [if_pos (Finset.mem_univ x)]
    refine (cast_eq _ _).trans ?_
    show tile m ρ c (sl c g') x = tile m ρ c _ _
    refine congrArg₂ (tile m ρ c) (Fin.ext ?_) (Shape.idx_ext₂ (n := ![128, 512]) ?_ ?_)
    · show (sl c g').val = (128 * (sl c g').val + 1 * (x 0).val) / 128; omega
    · show (x 0).val = (128 * (sl c g').val + 1 * (x 0).val) % 128; omega
    · show (x 1).val = 0 + 1 * (x 1).val; omega
  · have hn : i ∉ (outM.access (Rect.unit (s := S4096x512) off S128x512.size inb)).set := by
      rw [show (outM.access (Rect.unit (s := S4096x512) off S128x512.size inb)).set = (Rect.unit (s := S4096x512) off S128x512.size inb).set from View.set_slice_whole cc0_stg4_0 _,
        Rect.mem_set_unit]
      subst hoff
      intro h'
      have h0 : 128 * (sl c g).val ≤ (i 0).val ∧ (i 0).val < 128 * (sl c g).val + 128 := h' 0
      exact e (sl_inj c (Fin.ext (by omega)))
    refine (View.write_of_not_mem _ _ _ hn).trans ?_
    exact h g' (by have : g'.val ≠ g.val := fun h' => e (Fin.ext h'); omega) i hi

end Cert.KernelIdealProof
-- ==== Proof.IdealSteps.lean ====
/-
# The kernel's steps on the state of the exchange

Between two effects a device's state is four counters: transfers issued, receive waits done, tiles stored, send cells
waited on. `St` says what the device holds at given counters; each step lemma takes one effect of the kernel from one
value of the counters to the next.
-/
module

public import proofs.«01_k».proof.Proof.IdealGeom

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Ghost ℕ

abbrev 𝒱₀ : Variants := Variants.none

variable (m : (ℓ : Loc nD τ sig) → Buf (Elt F) ℓ) (ρ : Dev nD → PrngReg)

/-! ## The cells' records -/

/-- The semaphores that hold cells of the schedule: the barrier's, then those of the transfers. -/
def csem (i : Fin 63) : SemLoc sig := match i with
  | ⟨0, _⟩ => .reg barS
  | ⟨n + 1, h⟩ => .dma (⟨n + 5, by show n + 5 < 67; omega⟩ : DmaSem sig)
abbrev cell (p : Dev nD × Fin 63) : GSem nD τ sig := ((p.1 : Thread nD τ), csem p.2)

theorem exists_csem (q : DmaSem sig) (hq : 5 ≤ q.val) : ∃ i : Fin 63, csem i = .dma q := by
  have hlt : q.val < 67 := q.isLt
  refine ⟨⟨(q.val - 5) + 1, by omega⟩, ?_⟩
  show SemLoc.dma _ = SemLoc.dma q
  exact congrArg SemLoc.dma (Fin.ext (by show q.val - 5 + 5 = q.val; omega))

/-- Every cell's invariant, with its first round open. -/
def records : sProp 𝕄 :=
  iprop(∃ K : Dev nD × Fin 63 → ℕ, bigSep Finset.univ fun p => iprop(cellInv ERnd (plan m ρ) (K p) (cell p) ∗ reached ERnd (cell p) 0))

instance records_persistent : BI.Persistent (records (F := F) m ρ) := by unfold records; infer_instance

theorem record_at (c : Dev nD) (i : Fin 63) :
    records (F := F) m ρ ⊢ iprop(∃ κ, cellInv ERnd (plan m ρ) κ ((c : Thread nD τ), csem i) ∗ reached ERnd ((c : Thread nD τ), csem i) 0) := by
  unfold records
  iintro ⟨%K, H⟩
  iexists (K (c, i))
  iapply (show (bigSep Finset.univ fun p => (iprop(cellInv ERnd (plan m ρ) (K p) (cell p) ∗ reached ERnd (cell p) 0) : sProp 𝕄)) ⊢ iprop(cellInv ERnd (plan m ρ) (K (c, i)) (cell (c, i)) ∗ reached ERnd (cell (c, i)) 0)
    from bigSep_elim (Finset.mem_univ (c, i)))
  iexact H

theorem record_dma (c : Dev nD) (q : DmaSem sig) (hq : 5 ≤ q.val) :
    records (F := F) m ρ ⊢ iprop(∃ κ, cellInv ERnd (plan m ρ) κ ((c : Thread nD τ), .dma q) ∗ reached ERnd ((c : Thread nD τ), .dma q) 0) := by
  obtain ⟨i, hi⟩ := exists_csem q hq
  rw [← hi]; exact record_at m ρ c i

/-! ## The state -/

/-- Transfer `k`: not issued; issued; its send cell waited on. -/
def sendB (c : Dev nD) (kS kD : ℕ) (k : Fin 30) : sProp 𝕄 :=
  if kS ≤ k.val then iprop(dutyTok ERnd (sCell c k) 0 false ∗ dutyTok ERnd (rCell (tgt c k) (sl c (src k))) 0 false ∗ dstPts c k ∗ atPos ERnd (sCell c k) 0 ∅ 0)
  else if kD ≤ drain k then iprop(cred (tallyAt (sCell c k) () N) ∗ atPos ERnd (sCell c k) 0 ∅ 0)
  else atPos ERnd (sCell c k) 1 ∅ 0

/-- The place at which transfer `n`'s send cell is waited on. -/
def dr (n : ℕ) : ℕ := if h : n < 30 then drain ⟨n, h⟩ else 99
/-- Slot `sl c g` at share `q`, lent out while transfer `n` is under way. -/
def side (c : Dev nD) (kS kD : ℕ) (g : Fin 32) (n : ℕ) (q : PosShare TreeShare) : sProp 𝕄 :=
  if n < kS ∧ kD ≤ dr n then iprop(emp) else slPts c (sl c g) q (comm m ρ)

/-- The chunk of turn `g`: there; still to come. -/
def turnB (c : Dev nD) (kS kW kD : ℕ) (g : Fin 32) : sProp 𝕄 :=
  if g.val < kW + 2 then
    iprop(slPts c (sl c g) qO (comm m ρ) ∗ side m ρ c kS kD g (kR g) qR ∗ side m ρ c kS kD g (kL g) qL ∗ atPos ERnd (rCell c (sl c g)) (if g.val < 2 then 0 else 1) ∅ 0)
  else iprop(atPos ERnd (rCell c (sl c g)) 0 ∅ 0 ∗ cred (tallyAt (rCell c (sl c g)) () N))

/-- What device `c` holds after `kS` transfers issued, `kW` receive waits, `kG` tiles stored and `kD` send waits, beside `R`. -/
def St (R : sProp 𝕄) (c : Dev nD) (kS kW kG kD : ℕ) : sProp 𝕄 :=
  iprop(records m ρ ∗ levAts L lv ∗ (∃ W, owes (c : Thread nD τ) (Ow c kS) W)
    ∗ bigSep Finset.univ (sendB c kS kD) ∗ bigSep Finset.univ (turnB m ρ c kS kW kD)
    ∗ (((c : Thread nD τ).loc cc0_scratch1) ↦{fullShare} wkeep m ρ c)
    ∗ (∃ f, ⌜Done m ρ c kG f⌝ ∗ (((c : Thread nD τ).loc cc0_stg4_0) ↦{fullShare} f)) ∗ R)

/-! ## Reindexing the state -/

/-- One member of a family out, and another in its place. -/
theorem bigSep_swap {I : Type} [Fintype I] [DecidableEq I] (i : I) {f f' : I → sProp 𝕄} (h : ∀ j, j ≠ i → f j = f' j) :
    bigSep Finset.univ f ⊢ iprop(f i ∗ (f' i -∗ bigSep Finset.univ f')) := by
  rw [bigSep_univ_split i, bigSep_univ_split (Φ := f') i, bigSep_congr (fun j hj => h j (Finset.ne_of_mem_erase hj))]
  show iprop(f i ∗ bigSep _ f') ⊢ iprop(f i ∗ (f' i -∗ (f' i ∗ bigSep _ f')))
  iintro ⟨H, Hr⟩
  isplitl [H]; · iexact H
  iintro H'
  isplitl [H'] <;> iassumption

theorem drain_inj : Function.Injective drain := by decide
theorem dr_val (k : Fin 30) : dr k.val = drain k := by unfold dr; rw [dif_pos k.isLt]
theorem dr_ne (k : Fin 30) (n : ℕ) (h : n ≠ k.val) : dr n ≠ drain k := by
  unfold dr
  split
  · exact fun e => h (congrArg Fin.val (drain_inj e))
  · have : ∀ k : Fin 30, drain k < 99 := by decide
    have := this k; omega
theorem side_of : ∀ k : Fin 30, (rt k = true ∧ kR (src k) = k.val ∧ kL (src k) ≠ k.val) ∨ (rt k = false ∧ kL (src k) = k.val ∧ kR (src k) ≠ k.val) := by decide
theorem side_other : ∀ (k : Fin 30) (g : Fin 32), g ≠ src k → kR g ≠ k.val ∧ kL g ≠ k.val := by decide +kernel

theorem sends_send (c : Dev nD) (k : Fin 30) :
    bigSep Finset.univ (sendB (F := F) c k.val 0) ⊢ iprop((dutyTok ERnd (sCell c k) 0 false ∗ dutyTok ERnd (rCell (tgt c k) (sl c (src k))) 0 false ∗ dstPts c k)
      ∗ (cred (tallyAt (sCell c k) () N) -∗ bigSep Finset.univ (sendB c (k.val + 1) 0))) := by
  refine (bigSep_swap k (f' := sendB c (k.val + 1) 0) fun j hj => ?_).trans ?_
  · unfold sendB
    have : j.val ≠ k.val := fun h => hj (Fin.ext h)
    by_cases h : k.val ≤ j.val
    · rw [if_pos h, if_pos (show k.val + 1 ≤ j.val by omega)]
    · rw [if_neg h, if_neg (show ¬ k.val + 1 ≤ j.val by omega)]
  · unfold sendB
    rw [if_pos (Nat.le_refl _), if_neg (by omega), if_pos (Nat.zero_le _)]
    iintro ⟨⟨H1, H2, H3, H4⟩, Hk⟩
    isplitl [H1 H2 H3]
    · isplitl [H1]; · iexact H1
      isplitl [H2] <;> iassumption
    iintro Hc
    iapply Hk
    isplitl [Hc] <;> iassumption

theorem sends_drain (c : Dev nD) (k : Fin 30) :
    bigSep Finset.univ (sendB (F := F) c 30 (drain k)) ⊢ iprop((cred (tallyAt (sCell c k) () N) ∗ atPos ERnd (sCell c k) 0 ∅ 0)
      ∗ (atPos ERnd (sCell c k) 1 ∅ 0 -∗ bigSep Finset.univ (sendB c 30 (drain k + 1)))) := by
  have hlt (j : Fin 30) : ¬ 30 ≤ j.val := by have := j.isLt; omega
  refine (bigSep_swap k (f' := sendB c 30 (drain k + 1)) fun j hj => ?_).trans ?_
  · unfold sendB
    have : drain j ≠ drain k := fun h => hj (drain_inj h)
    rw [if_neg (hlt j), if_neg (hlt j)]
    by_cases h : drain k ≤ drain j
    · rw [if_pos h, if_pos (by omega)]
    · rw [if_neg h, if_neg (by omega)]
  · unfold sendB
    rw [if_neg (hlt k), if_pos (Nat.le_refl _), if_neg (hlt k), if_neg (by omega)]

theorem side_send (c : Dev nD) (k : Fin 30) (g : Fin 32) (n : ℕ) (q) (h : n ≠ k.val) :
    side (F := F) m ρ c k.val 0 g n q = side m ρ c (k.val + 1) 0 g n q := by
  unfold side
  by_cases h' : n < k.val
  · rw [if_pos ⟨h', Nat.zero_le _⟩, if_pos ⟨by omega, Nat.zero_le _⟩]
  · rw [if_neg (fun e => h' e.1), if_neg (fun e => by omega)]
theorem side_drain (c : Dev nD) (k : Fin 30) (g : Fin 32) (n : ℕ) (q) (h : n ≠ k.val) :
    side (F := F) m ρ c 30 (drain k) g n q = side m ρ c 30 (drain k + 1) g n q := by
  unfold side
  have := dr_ne k n h
  by_cases h' : n < 30 ∧ drain k ≤ dr n
  · rw [if_pos h', if_pos ⟨h'.1, by omega⟩]
  · rw [if_neg h', if_neg (fun e => h' ⟨e.1, by omega⟩)]

theorem turns_send (c : Dev nD) (k : Fin 30) (kW : ℕ) (hg : (src k).val < kW + 2) :
    bigSep Finset.univ (turnB (F := F) m ρ c k.val kW 0) ⊢ iprop(lent m ρ c k ∗ bigSep Finset.univ (turnB m ρ c (k.val + 1) kW 0)) := by
  refine (bigSep_swap (src k) (f' := turnB m ρ c (k.val + 1) kW 0) fun g hne => ?_).trans ?_
  · unfold turnB
    rw [side_send m ρ c k g (kR g) qR (side_other k g hne).1, side_send m ρ c k g (kL g) qL (side_other k g hne).2]
  · have hpre (q) : side (F := F) m ρ c k.val 0 (src k) k.val q = slPts c (sl c (src k)) q (comm m ρ) := by
      unfold side; rw [if_neg (fun e => Nat.lt_irrefl _ e.1)]
    have hpost (q) : side (F := F) m ρ c (k.val + 1) 0 (src k) k.val q = iprop(emp) := by
      unfold side; rw [if_pos ⟨Nat.lt_succ_self _, Nat.zero_le _⟩]
    unfold turnB lent
    rw [if_pos hg, if_pos hg]
    rcases side_of k with ⟨hr, h1, h2⟩ | ⟨hr, h1, h2⟩
    · rw [h1, side_send m ρ c k _ _ qL h2, hpre, hpost, show qOf k = qR from if_pos hr]
      iintro ⟨⟨HO, HR, HL, Ha⟩, Hk⟩
      isplitl [HR]; · iexact HR
      iapply Hk
      isplitl [HO]; · iexact HO
      isplitr; · iempintro
      isplitl [HL] <;> iassumption
    · rw [h1, side_send m ρ c k _ _ qR h2, hpre, hpost, show qOf k = qL from if_neg (by rw [hr]; exact Bool.false_ne_true)]
      iintro ⟨⟨HO, HR, HL, Ha⟩, Hk⟩
      isplitl [HL]; · iexact HL
      iapply Hk
      isplitl [HO]; · iexact HO
      isplitl [HR]; · iexact HR
      isplitr; · iempintro
      iexact Ha

theorem turns_drain (c : Dev nD) (k : Fin 30) :
    bigSep Finset.univ (turnB (F := F) m ρ c 30 30 (drain k)) ⊢ iprop(lent m ρ c k -∗ bigSep Finset.univ (turnB m ρ c 30 30 (drain k + 1))) := by
  have hg : (src k).val < 30 + 2 := (src k).isLt
  refine (bigSep_swap (src k) (f' := turnB m ρ c 30 30 (drain k + 1)) fun g hne => ?_).trans ?_
  · unfold turnB
    rw [side_drain m ρ c k g (kR g) qR (side_other k g hne).1, side_drain m ρ c k g (kL g) qL (side_other k g hne).2]
  · have hpost (q) : side (F := F) m ρ c 30 (drain k + 1) (src k) k.val q = slPts c (sl c (src k)) q (comm m ρ) := by
      unfold side; rw [dr_val, if_neg (fun e => by omega)]
    have hpre (q) : side (F := F) m ρ c 30 (drain k) (src k) k.val q = iprop(emp) := by
      unfold side; rw [dr_val, if_pos ⟨k.isLt, Nat.le_refl _⟩]
    unfold turnB lent
    rw [if_pos hg, if_pos hg]
    rcases side_of k with ⟨hr, h1, h2⟩ | ⟨hr, h1, h2⟩
    · rw [h1, side_drain m ρ c k _ _ qL h2, hpre, hpost, show qOf k = qR from if_pos hr]
      iintro ⟨⟨HO, -, HL, Ha⟩, Hk⟩ HR
      iapply Hk
      isplitl [HO]; · iexact HO
      isplitl [HR]; · iexact HR
      isplitl [HL] <;> iassumption
    · rw [h1, side_drain m ρ c k _ _ qR h2, hpre, hpost, show qOf k = qL from if_neg (by rw [hr]; exact Bool.false_ne_true)]
      iintro ⟨⟨HO, HR, -, Ha⟩, Hk⟩ HL
      iapply Hk
      isplitl [HO]; · iexact HO
      isplitl [HR]; · iexact HR
      isplitl [HL] <;> iassumption

theorem turns_wait (c : Dev nD) (kS kW : ℕ) (g : Fin 32) (hg : g.val = kW + 2) (hR : kS ≤ kR g) (hL : kS ≤ kL g) :
    bigSep Finset.univ (turnB (F := F) m ρ c kS kW 0) ⊢ iprop((atPos ERnd (rCell c (sl c g)) 0 ∅ 0 ∗ cred (tallyAt (rCell c (sl c g)) () N))
      ∗ ((slPts c (sl c g) fullShare (comm m ρ) ∗ atPos ERnd (rCell c (sl c g)) 1 ∅ 0) -∗ bigSep Finset.univ (turnB m ρ c kS (kW + 1) 0))) := by
  refine (bigSep_swap g (f' := turnB m ρ c kS (kW + 1) 0) fun j hj => ?_).trans ?_
  · unfold turnB
    have : j.val ≠ g.val := fun h => hj (Fin.ext h)
    by_cases h : j.val < kW + 2
    · rw [if_pos h, if_pos (show j.val < kW + 1 + 2 by omega)]
    · rw [if_neg h, if_neg (show ¬ j.val < kW + 1 + 2 by omega)]
  · unfold turnB side
    rw [if_neg (by omega), if_pos (by omega), if_neg (fun e => by omega), if_neg (fun e => by omega), if_neg (by omega)]
    iintro ⟨H, Hk⟩
    isplitl [H]; · iexact H
    iintro ⟨Hs, Ha⟩
    iapply Hk
    ihave Hs3 := (slPts_split c (sl c g) (comm m ρ)).1 $$ Hs
    icases Hs3 with ⟨HR, HL, HO⟩
    isplitl [HO]; · iexact HO
    isplitl [HR]; · iexact HR
    isplitl [HL] <;> iassumption

theorem turns_load (c : Dev nD) (kS kW kD : ℕ) (g : Fin 32) (hg : g.val < kW + 2) :
    bigSep Finset.univ (turnB (F := F) m ρ c kS kW kD) ⊢ iprop(slPts c (sl c g) qO (comm m ρ)
      ∗ (slPts c (sl c g) qO (comm m ρ) -∗ bigSep Finset.univ (turnB m ρ c kS kW kD))) := by
  refine (bigSep_swap g (f' := turnB m ρ c kS kW kD) fun j hj => rfl).trans ?_
  unfold turnB
  rw [if_pos hg]
  iintro ⟨⟨HO, H⟩, Hk⟩
  isplitl [HO]; · iexact HO
  iintro HO
  iapply Hk
  isplitl [HO] <;> iassumption

/-! ## The steps -/

/-- What has to hold for device `c` to run `p` and end in `Q`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Every device reaches every other. -/
theorem routes_all (a b : Dev nD) : τ.routes (a : Thread nD τ) (Dev.tc b : Thread nD τ) = true := by routes

/-- Transfer `k` by the rule for transfers between scheduled cells. -/
theorem wp_move (c n : Dev nD) (k : Fin 30) (hn : n = tgt c k) (κ₁ κ₂ : ℕ) (W : Waits sig Unit) (fd : (cc0_scratch0 : Ref sig .tc).ty.Contents (Elt F))
    {off : Fin 3 → ℕ} (hoff : off = ![(sl c (src k)).val, 0, 0]) {inb inb'} {s r : DmaSem sig} (hs : s = sSem k) (hr : r = rSem (sl c (src k)))
    {hsc : (chunkM off inb' : Memref sig (Dev.tc n : Thread nD τ).2.kind .vmem S128x4096 .fp8e5m2).view.ref.isScScratch = false}
    {hsrc : (chunkM off inb : Memref sig .tc .vmem S128x4096 .fp8e5m2).view.WordExact} {hdst : (chunkM off inb' : Memref sig .tc .vmem S128x4096 .fp8e5m2).view.WordExact}
    {hsem : DmaTarget.Typed .vmem (.dma r) (.remote (Dev.tc n : Thread nD τ) (chunkM off inb' : Memref sig .tc .vmem S128x4096 .fp8e5m2) (.dma s) hsc)}
    {α : Type} {Q : α → sProp 𝕄} {kk : PUnit → Prog (TpuEff nD τ sig (Elt F) Λ₀ .tc) α} :
    iprop(cellInv ERnd (plan m ρ) κ₁ (sCell c k) ∗ cellInv ERnd (plan m ρ) κ₂ (rCell (tgt c k) (sl c (src k)))
        ∗ lent m ρ c k ∗ slPts (tgt c k) (sl c (src k)) fullShare fd ∗ owes (c : Thread nD τ) (Ow c k.val) W
        ∗ dutyTok ERnd (sCell c k) 0 false ∗ reached ERnd (sCell c k) 0
        ∗ dutyTok ERnd (rCell (tgt c k) (sl c (src k))) 0 false ∗ reached ERnd (rCell (tgt c k) (sl c (src k))) 0)
      ⊢ iprop(((cred (tallyAt (sCell c k) () N) ∗ owes (c : Thread nD τ) (Ow c (k.val + 1)) W) -∗ wpc c (kk ⟨⟩) Q)
          -∗ wpc c (.op (.enqueueDma (chunkM off inb) (.remote (Dev.tc n : Thread nD τ) (chunkM off inb') (.dma s) hsc) (.dma r) hsrc hdst hsem) kk) Q) := by
  subst hn hs hr
  have e2 : 2 ≤ (arr k).val := two_le_arr k
  have hset : (chunkM off inb).view.set = slot (sl c (src k)) := chunkM_set _ off hoff inb
  have hN : (chunkM off inb' : Memref sig (Dev.tc (tgt c k) : Thread nD τ).2.kind .vmem S128x4096 .fp8e5m2).view.amount (.dma (rSem (sl c (src k)))) = N := credit_eq off inb'
  have hp₁ : (((chunkM off inb).view.loc (c : Thread nD τ)) ↦[(chunkM off inb).view.set]{qOf k} (comm m ρ) : sProp 𝕄) ⊢ (plan (F := F) m ρ).payload (sCell c k) 0 false := by
    rw [payload_move, movePay_send, lent, slPts, ← hset]
  have hp₂ : (((chunkM off inb).view.loc (tgt c k : Thread nD τ)) ↦[(chunkM off inb).view.set]{fullShare}
      ((chunkM off inb').view.write (Elt F) fd ((chunkM off inb).view.read (Elt F) (comm m ρ)) Finset.univ) : sProp 𝕄)
      ⊢ (plan (F := F) m ρ).payload (rCell (tgt c k) (sl c (src k))) 0 false := by
    rw [payload_move, movePay_recv, slPts, ← hset]
    refine Entails.of_eq (pointsTo_congr fun i hi => ?_)
    rw [hset] at hi
    exact landed _ off hoff inb _ _ i hi
  unfold lent slPts
  rw [← hset]
  have hd₁ : false ∈ (plan (F := F) m ρ).duties (sCell c k) 0 := by rw [duties_move m ρ c _ (move_send c k)]; exact Finset.mem_singleton_self _
  have hd₂ : false ∈ (plan (F := F) m ρ).duties (rCell (tgt c k) (sl c (src k))) 0 := by
    rw [duties_move m ρ (tgt c k) _ (by rw [← sl_tgt]; exact move_recv _ _ e2)]; exact Finset.mem_singleton_self _
  have ha₁ : (plan (F := F) m ρ).amount (sCell c k) 0 false = N := amount_move m ρ c _ false
  have ha₂ : (plan (F := F) m ρ).amount (rCell (tgt c k) (sl c (src k))) 0 false = N := amount_move m ρ (tgt c k) _ false
  have hO := Ow_step c k
  exact Rounds.wp_send_pointsTo 𝒱₀ ERnd (plan m ρ) (c : Thread nD τ) none (κ₁ := κ₁) (κ₂ := κ₂)
    (r₁ := 0) (r₂ := 0) (d₁ := false) (d₂ := false) (fs := comm m ρ) (fd := fd) (q := qOf k)
    (c' := (Dev.tc (tgt c k) : Thread nD τ)) (src := chunkM off inb) (dst := chunkM off inb') (sS := .dma (sSem k)) (sem := .dma (rSem (sl c (src k))))
    hd₁ hd₂ () () N hN ha₁ ha₂ (Ow c (k.val + 1)) hO (W := W) hp₁ hp₂ (routes_all c (tgt c k))

/-- Transfer `k`, from the slot of its turn into the same slot of its target. -/
theorem st_send (R : sProp 𝕄) {kW kG : ℕ} (c : Dev nD) (k : Fin 30) (n : Dev nD) (hn : n = tgt c k) (hg : (src k).val < kW + 2) {off : Fin 3 → ℕ} (hoff : off = ![(sl c (src k)).val, 0, 0]) {inb inb'}
    {s r : DmaSem sig} (hs : s = sSem k) (hr : r = rSem (sl c (src k)))
    {hsc : (chunkM off inb' : Memref sig (Dev.tc n : Thread nD τ).2.kind .vmem S128x4096 .fp8e5m2).view.ref.isScScratch = false} {hsrc : (chunkM off inb).view.WordExact} {hdst : (chunkM off inb').view.WordExact}
    {hsem : DmaTarget.Typed .vmem (.dma r) (.remote (Dev.tc n : Thread nD τ) (chunkM off inb' : Memref sig .tc .vmem S128x4096 .fp8e5m2) (.dma s) hsc)}
    {α : Type} {Q : α → sProp 𝕄} {kk : PUnit → Prog (TpuEff nD τ sig (Elt F) Λ₀ .tc) α}
    (h : St m ρ R c (k.val + 1) kW kG 0 ⊢ wpc c (kk ⟨⟩) Q) :
    St m ρ R c k.val kW kG 0 ⊢ wpc c (Prog.lift (.enqueueDma (chunkM off inb) (.remote (Dev.tc n : Thread nD τ) (chunkM off inb') (.dma s) hsc) (.dma r) hsrc hdst hsem) >>= kk) Q := by
  show _ ⊢ wpc c (.op _ kk) Q
  have h5 := (sSem_lt k).2
  have h6 : 5 ≤ (rSem (sl c (src k))).val := by rw [rSem_val]; omega
  unfold St at h ⊢
  iintro ⟨#Hrec, #Hlev, ⟨%W, HO⟩, HS, HT, Hw, Hout, HR⟩
  ihave Hs := (record_dma m ρ c (sSem k) h5) $$ Hrec
  ihave Hr := (record_dma m ρ (tgt c k) (rSem (sl c (src k))) h6) $$ Hrec
  icases Hs with ⟨%κ₁, #HI₁, #Hr₁⟩
  icases Hr with ⟨%κ₂, #HI₂, #Hr₂⟩
  ihave HS := (sends_send c k) $$ HS
  icases HS with ⟨⟨Ht₁, Ht₂, Hdst⟩, HSk⟩
  ihave HT := (turns_send m ρ c k kW hg) $$ HT
  icases HT with ⟨Hl, HT⟩
  unfold dstPts
  icases Hdst with ⟨%fd, Hd⟩
  iapply (wp_move m ρ c n k hn κ₁ κ₂ W fd hoff hs hr) $$ [Hl Hd HO Ht₁ Ht₂]
  · isplitr; · iexact HI₁
    isplitr; · iexact HI₂
    isplitl [Hl]; · iexact Hl
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply h
  isplitr; · iexact Hrec
  isplitr; · iexact Hlev
  isplitl [HO]; · iexists W; iexact HO
  isplitl [HSk Hc]; · iapply HSk; iexact Hc
  isplitl [HT]; · iexact HT
  isplitl [Hw]; · iexact Hw
  isplitl [Hout] <;> iassumption

/-- A wait on the cell of one transfer, owing `O`, which it may: the position advanced and what the cell hands over. -/
theorem wp_wait_move (c : Dev nD) (q : DmaSem sig) (hq : IsMove c (.dma q)) (κ : ℕ) (O : CellTallies nD τ sig Unit) (W : Waits sig Unit)
    {off off' : Fin 3 → ℕ} {inb inb'} {hsrc : (chunkM off inb : Memref sig .tc .vmem S128x4096 .fp8e5m2).view.WordExact} {hdst : (chunkM off' inb' : Memref sig .tc .vmem S128x4096 .fp8e5m2).view.WordExact}
    {α : Type} {Q : α → sProp 𝕄} {kk : PUnit → Prog (TpuEff nD τ sig (Elt F) Λ₀ .tc) α} :
    iprop(cellInv ERnd (plan m ρ) κ ((c : Thread nD τ), .dma q) ∗ cred (tallyAt ((c : Thread nD τ), SemLoc.dma q) () N) ∗ owes (c : Thread nD τ) O W
        ∗ MayWait (c : Thread nD τ) (.dma q) () O ∗ atPos ERnd ((c : Thread nD τ), .dma q) 0 ∅ 0)
      ⊢ iprop(((owes (c : Thread nD τ) O (insert (SemLoc.dma q, ()) W) ∗ atPos ERnd ((c : Thread nD τ), .dma q) 1 ∅ 0
            ∗ movePay m ρ c (.dma q)) -∗ wpc c (kk ⟨⟩) Q)
          -∗ wpc c (.op (.waitDma2 q (chunkM off inb) (chunkM off' inb') hsrc hdst) kk) Q) := by
  have hN : (chunkM off' inb' : Memref sig .tc .vmem S128x4096 .fp8e5m2).view.dmaCredit = N := credit_eq off' inb'
  have hk : 0 + (chunkM off' inb' : Memref sig .tc .vmem S128x4096 .fp8e5m2).view.dmaCredit = (plan (F := F) m ρ).expect ((c : Thread nD τ), .dma q) 0 := by
    rw [Nat.zero_add, hN, expect_move m ρ c q hq]
  iintro ⟨#HI, Hc, HO, HM, Hat⟩ Hk
  iapply (Rounds.wp_wait_rest_token 𝒱₀ ERnd (plan m ρ) (c : Thread nD τ) none (κ := κ)
      (wpE_waitDma2_eq 𝒱₀ (c : Thread nD τ) none Set.univ) (Set.mem_univ _) () (O := O) (W := W) (R := 0) (m := 0) (T := ∅) hk) $$ [Hc HO HM Hat]
  · isplitr; · iexact HI
    isplitl [Hc]; · iexact Hc
    isplitl [HO]; · iexact HO
    isplitl [HM]; · iexact HM
    iexact Hat
  iintro ⟨HO, Hat, -, Hpay⟩
  iapply Hk
  isplitl [HO]; · iexact HO
  isplitl [Hat]; · iexact Hat
  iapply (Entails.of_eq (rest_move m ρ c q hq)); iexact Hpay

/-- The receive wait of turn `g`. -/
theorem st_wait (R : sProp 𝕄) {kS kW kG : ℕ} (c : Dev nD) (g : Fin 32) (hg : g.val = kW + 2) (hR : kS ≤ kR g) (hL : kS ≤ kL g) (ho : ∀ k : Fin 30, kS ≤ k.val → g.val < (arr k).val)
    {q : DmaSem sig} (hq : q = rSem (sl c g))
    {off off' : Fin 3 → ℕ} {inb inb'} {hsrc : (chunkM off inb : Memref sig .tc .vmem S128x4096 .fp8e5m2).view.WordExact} {hdst : (chunkM off' inb' : Memref sig .tc .vmem S128x4096 .fp8e5m2).view.WordExact}
    {α : Type} {Q : α → sProp 𝕄} {kk : PUnit → Prog (TpuEff nD τ sig (Elt F) Λ₀ .tc) α}
    (h : St m ρ R c kS (kW + 1) kG 0 ⊢ wpc c (kk ⟨⟩) Q) :
    St m ρ R c kS kW kG 0 ⊢ wpc c (Prog.lift (.waitDma2 q (chunkM off inb) (chunkM off' inb') hsrc hdst) >>= kk) Q := by
  subst hq
  show _ ⊢ wpc c (.op _ kk) Q
  have hm := move_recv c g (by omega)
  unfold St at h ⊢
  iintro ⟨#Hrec, #Hlev, ⟨%W, HO⟩, HS, HT, Hw, Hout, HR⟩
  ihave Hs := (record_dma m ρ c (rSem (sl c g)) hm.1) $$ Hrec
  icases Hs with ⟨%κ, #HI, -⟩
  ihave HT := (turns_wait m ρ c kS kW g hg hR hL) $$ HT
  icases HT with ⟨⟨Ha, Hc⟩, HTk⟩
  iapply (wp_wait_move m ρ c (rSem (sl c g)) hm κ (Ow c kS) W) $$ [Ha Hc HO]
  · isplitr; · iexact HI
    isplitl [Hc]; · iexact Hc
    isplitl [HO]; · iexact HO
    isplitr; · iapply (mayWait_recv c g kS ho); iexact Hlev
    iexact Ha
  iintro ⟨HO, Ha, Hp⟩
  ihave Hp := (Entails.of_eq (movePay_recv m ρ c (sl c g))) $$ Hp
  iapply h
  isplitr; · iexact Hrec
  isplitr; · iexact Hlev
  isplitl [HO]; · iexists _; iexact HO
  isplitl [HS]; · iexact HS
  isplitl [HTk Ha Hp]
  · iapply HTk
    isplitl [Hp] <;> iassumption
  isplitl [Hw]; · iexact Hw
  isplitl [Hout] <;> iassumption

/-- The wait on the send cell of transfer `k`. -/
theorem st_drain (R : sProp 𝕄) {kG kD : ℕ} (c : Dev nD) (k : Fin 30) (hk : drain k = kD)
    {q : DmaSem sig} (hq : q = sSem k)
    {off off' : Fin 3 → ℕ} {inb inb'} {hsrc : (chunkM off inb : Memref sig .tc .vmem S128x4096 .fp8e5m2).view.WordExact} {hdst : (chunkM off' inb' : Memref sig .tc .vmem S128x4096 .fp8e5m2).view.WordExact}
    {α : Type} {Q : α → sProp 𝕄} {kk : PUnit → Prog (TpuEff nD τ sig (Elt F) Λ₀ .tc) α}
    (h : St m ρ R c 30 30 kG (kD + 1) ⊢ wpc c (kk ⟨⟩) Q) :
    St m ρ R c 30 30 kG kD ⊢ wpc c (Prog.lift (.waitDma2 q (chunkM off inb) (chunkM off' inb') hsrc hdst) >>= kk) Q := by
  subst hq hk
  show _ ⊢ wpc c (.op _ kk) Q
  have hm := move_send c k
  unfold St at h ⊢
  iintro ⟨#Hrec, #Hlev, ⟨%W, HO⟩, HS, HT, Hw, Hout, HR⟩
  ihave Hs := (record_dma m ρ c (sSem k) hm.1) $$ Hrec
  icases Hs with ⟨%κ, #HI, -⟩
  ihave HS := (sends_drain c k) $$ HS
  icases HS with ⟨⟨Hc, Ha⟩, HSk⟩
  ihave HTk := (turns_drain m ρ c k) $$ HT
  iapply (wp_wait_move m ρ c (sSem k) hm κ (Ow c 30) W) $$ [Ha Hc HO]
  · isplitr; · iexact HI
    isplitl [Hc]; · iexact Hc
    isplitl [HO]; · iexact HO
    isplitr; · iapply (mayWait_low c (sSem k) (sSem_lt k).1 (Ow c 30) (.inr (Ow_last c))); iexact Hlev
    iexact Ha
  iintro ⟨HO, Ha, Hp⟩
  ihave Hp := (Entails.of_eq (movePay_send m ρ c k)) $$ Hp
  iapply h
  isplitr; · iexact Hrec
  isplitr; · iexact Hlev
  isplitl [HO]; · iexists _; iexact HO
  isplitl [HSk Ha]; · iapply HSk; iexact Ha
  isplitl [HTk Hp]; · iapply HTk; iexact Hp
  isplitl [Hw]; · iexact Hw
  isplitl [Hout] <;> iassumption

/-- The load of the chunk of turn `g`. -/
theorem st_chunk (R : sProp 𝕄) {kS kW kG kD : ℕ} (c : Dev nD) (g : Fin 32) (hg : g.val < kW + 2) {off : Fin 3 → ℕ} (hoff : off = ![(sl c g).val, 0, 0]) {inb}
    {hl : commM.view.LoadsAt (Rect.unit (s := S32x128x4096) off S1x128x4096.size inb).toLoadRect}
    {α : Type} {Q : α → sProp 𝕄} {kk : Vec F S1x128x4096 .fp8e5m2 → Prog (TpuEff nD τ sig (Elt F) Λ₀ .tc) α}
    (h : St m ρ R c kS kW kG kD ⊢ wpc c (kk (chunk m ρ (sl c g))) Q) :
    St m ρ R c kS kW kG kD ⊢ wpc c (Prog.lift (.load commM (Rect.unit (s := S32x128x4096) off S1x128x4096.size inb).toLoadRect hl) >>= kk) Q := by
  show _ ⊢ wpc c (.op _ kk) Q
  have hset := setOn_slot (sl c g) off hoff inb
  unfold St at h ⊢
  iintro ⟨#Hrec, #Hlev, HO, HS, HT, Hw, Hout, HR⟩
  ihave HT := (turns_load m ρ c kS kW kD g hg) $$ HT
  icases HT with ⟨Hl, HTk⟩
  unfold slPts
  iapply (wp_load 𝒱₀ (c : Thread nD τ) none Set.univ (m := commM) (S := slot (sl c g)) (q := qO) (f := comm m ρ) (le_of_eq hset)) $$ Hl
  iintro Hl
  rw [read_slot m ρ (sl c g) off hoff inb]
  iapply h
  isplitr; · iexact Hrec
  isplitr; · iexact Hlev
  isplitl [HO]; · iexact HO
  isplitl [HS]; · iexact HS
  isplitl [HTk Hl]; · iapply HTk; iexact Hl
  isplitl [Hw]; · iexact Hw
  isplitl [Hout] <;> iassumption

/-- The load of the device's block of the right operand. -/
theorem st_keep (R : sProp 𝕄) {kS kW kG kD : ℕ} (c : Dev nD) {inb} {hl : w8M.view.LoadsAt (Rect.unit (s := S4096x512) ![0, 0] S4096x512.size inb).toLoadRect}
    {α : Type} {Q : α → sProp 𝕄} {kk : Vec F S4096x512 .fp8e5m2 → Prog (TpuEff nD τ sig (Elt F) Λ₀ .tc) α}
    (h : St m ρ R c kS kW kG kD ⊢ wpc c (kk (wkeep m ρ c)) Q) :
    St m ρ R c kS kW kG kD ⊢ wpc c (Prog.lift (.load w8M (Rect.unit (s := S4096x512) ![0, 0] S4096x512.size inb).toLoadRect hl) >>= kk) Q := by
  show _ ⊢ wpc c (.op _ kk) Q
  unfold St at h ⊢
  iintro ⟨#Hrec, #Hlev, HO, HS, HT, Hw, Hout, HR⟩
  iapply (wp_load 𝒱₀ (c : Thread nD τ) none Set.univ (m := w8M) (Finset.subset_univ _)) $$ Hw
  iintro Hw
  rw [read_w8]
  iapply h
  isplitr; · iexact Hrec
  isplitr; · iexact Hlev
  isplitl [HO]; · iexact HO
  isplitl [HS]; · iexact HS
  isplitl [HT]; · iexact HT
  isplitl [Hw]; · iexact Hw
  isplitl [Hout] <;> iassumption

/-- A load of the result's buffer, whose value is not used. -/
theorem st_peek (R : sProp 𝕄) {kS kW kG kD : ℕ} (c : Dev nD) {off : Fin 2 → ℕ} {inb} {hl : outM.view.LoadsAt (Rect.unit (s := S4096x512) off S128x512.size inb).toLoadRect}
    {α : Type} {Q : α → sProp 𝕄} {kk : Vec F S128x512 .f32 → Prog (TpuEff nD τ sig (Elt F) Λ₀ .tc) α}
    (h : ∀ v, St m ρ R c kS kW kG kD ⊢ wpc c (kk v) Q) :
    St m ρ R c kS kW kG kD ⊢ wpc c (Prog.lift (.load outM (Rect.unit (s := S4096x512) off S128x512.size inb).toLoadRect hl) >>= kk) Q := by
  show _ ⊢ wpc c (.op _ kk) Q
  unfold St at h ⊢
  iintro ⟨#Hrec, #Hlev, HO, HS, HT, Hw, ⟨%f, %hf, Hout⟩, HR⟩
  iapply (wp_load 𝒱₀ (c : Thread nD τ) none Set.univ (m := outM) (Finset.subset_univ _)) $$ Hout
  iintro Hout
  iapply (h _)
  isplitr; · iexact Hrec
  isplitr; · iexact Hlev
  isplitl [HO]; · iexact HO
  isplitl [HS]; · iexact HS
  isplitl [HT]; · iexact HT
  isplitl [Hw]; · iexact Hw
  isplitr [HR]
  · iexists f; isplitr; · (ipureintro; exact hf)
    iexact Hout
  iexact HR

/-- The store of the tile of turn `g`. -/
theorem st_store (R : sProp 𝕄) {kS kW kG kD : ℕ} (c : Dev nD) (g : Fin 32) (hg : g.val = kG) {off : Fin 2 → ℕ} (hoff : off = ![128 * (sl c g).val, 0]) {inb}
    {w : Vec F S128x512 .f32} (hw : w = tile m ρ c (sl c g))
    {hx : (outM.access (Rect.unit (s := S4096x512) off S128x512.size inb)).Stores Finset.univ} {hm : Finset.univ = Finset.univ ∨ ∀ a, (Rect.unit (s := S4096x512) off S128x512.size inb).stride a = 1}
    {α : Type} {Q : α → sProp 𝕄} {kk : PUnit → Prog (TpuEff nD τ sig (Elt F) Λ₀ .tc) α}
    (h : St m ρ R c kS kW (kG + 1) kD ⊢ wpc c (kk ⟨⟩) Q) :
    St m ρ R c kS kW kG kD ⊢ wpc c (Prog.lift (.store outM (Rect.unit (s := S4096x512) off S128x512.size inb) w Finset.univ hx hm) >>= kk) Q := by
  subst hw hg
  show _ ⊢ wpc c (.op _ kk) Q
  unfold St at h ⊢
  iintro ⟨#Hrec, #Hlev, HO, HS, HT, Hw, ⟨%f, %hf, Hout⟩, HR⟩
  iapply (wp_store 𝒱₀ (c : Thread nD τ) none Set.univ (m := outM) (r := Rect.unit (s := S4096x512) off S128x512.size inb) (Mk := Finset.univ) (S := Finset.univ) (f := f) (Finset.subset_univ _)) $$ Hout
  iintro Hout
  iapply h
  isplitr; · iexact Hrec
  isplitr; · iexact Hlev
  isplitl [HO]; · iexact HO
  isplitl [HS]; · iexact HS
  isplitl [HT]; · iexact HT
  isplitl [Hw]; · iexact Hw
  isplitr [HR]
  · iexists _; isplitr; · (ipureintro; exact done_store m ρ c g f hf off hoff inb)
    iexact Hout
  iexact HR

end Cert.KernelIdealProof
-- ==== Proof.IdealBody.lean ====
/-
# The kernel's start and its end

How the effects of the printed body are taken in a row (`seq` and the step lemmas in the order the body uses them), what a
device holds before the kernel (`start`) and after it (`finish`), the opening handshake on the barrier semaphore with the
device's own two chunks, and the closing of every cell.
-/
module

public import proofs.«01_k».proof.Proof.IdealSteps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Ghost ℕ

variable (m : (ℓ : Loc nD τ sig) → Buf (Elt F) ℓ) (ρ : Dev nD → PrngReg)

/-! ## Effects with the kernel's own semaphore and slot expressions -/

/-- A transfer to the right: transfer `k` carries the chunk of turn `g` and signals the send cell at place `n`. -/
theorem sendR (R : sProp 𝕄) {kS kW kG : ℕ} (c : Dev nD) (k : Fin 30) (g : Fin 32) {n : ℕ} (hk : k.val = kS ∧ src k = g ∧ g.val < kW + 2 ∧ rt k = true ∧ pos k = n)
    {off : Fin 3 → ℕ} (hoff : off = ![(sl c g).val, 0, 0]) {o : Fin 1 → ℕ} (ho : o = ![(sl c g).val]) {hd : k0_dev3 c < nD} {inb inb' inbs hs inbr hr}
    {hsc : (chunkM off inb' : Memref sig (Dev.tc (⟨k0_dev3 c, hd⟩ : Dev nD) : Thread nD τ).2.kind .vmem S128x4096 .fp8e5m2).view.ref.isScScratch = false} {hsrc : (chunkM off inb).view.WordExact} {hdst : (chunkM off inb').view.WordExact}
    {hsem : DmaTarget.Typed .vmem (.dma ((cc0_scratch4.slice (Rect.unit (s := S32) o S1.size inbr)).squeeze S_ hr).sem) (.remote (Dev.tc (⟨k0_dev3 c, hd⟩ : Dev nD) : Thread nD τ) (chunkM off inb' : Memref sig .tc .vmem S128x4096 .fp8e5m2) (.dma ((cc0_scratch2.slice (Rect.unit (s := S15) ![n] S1.size inbs)).squeeze S_ hs).sem) hsc)}
    {α : Type} {Q : α → sProp 𝕄} {kk : PUnit → Prog (TpuEff nD τ sig (Elt F) Λ₀ .tc) α}
    (h : St m ρ R c (kS + 1) kW kG 0 ⊢ wpc c (kk ⟨⟩) Q) :
    St m ρ R c kS kW kG 0 ⊢ wpc c (Prog.lift (.enqueueDma (chunkM off inb) (.remote (Dev.tc (⟨k0_dev3 c, hd⟩ : Dev nD) : Thread nD τ) (chunkM off inb') (.dma ((cc0_scratch2.slice (Rect.unit (s := S15) ![n] S1.size inbs)).squeeze S_ hs).sem) hsc)
      (.dma ((cc0_scratch4.slice (Rect.unit (s := S32) o S1.size inbr)).squeeze S_ hr).sem) hsrc hdst hsem) >>= kk) Q := by
  obtain ⟨rfl, rfl, hg, hrt, hp⟩ := hk
  exact st_send m ρ R c k _ (Fin.ext ((devR_eq c).trans (congrArg Fin.val (show nxt c = tgt c k by unfold tgt; rw [if_pos hrt])))) hg hoff
    (sSemR_eq k n ⟨hrt, hp⟩ _ _) (rSem_eq _ _ ho _ _) h

/-- A transfer to the left. -/
theorem sendL (R : sProp 𝕄) {kS kW kG : ℕ} (c : Dev nD) (k : Fin 30) (g : Fin 32) {n : ℕ} (hk : k.val = kS ∧ src k = g ∧ g.val < kW + 2 ∧ rt k = false ∧ pos k = n)
    {off : Fin 3 → ℕ} (hoff : off = ![(sl c g).val, 0, 0]) {o : Fin 1 → ℕ} (ho : o = ![(sl c g).val]) {hd : k0_dev5 c < nD} {inb inb' inbs hs inbr hr}
    {hsc : (chunkM off inb' : Memref sig (Dev.tc (⟨k0_dev5 c, hd⟩ : Dev nD) : Thread nD τ).2.kind .vmem S128x4096 .fp8e5m2).view.ref.isScScratch = false} {hsrc : (chunkM off inb).view.WordExact} {hdst : (chunkM off inb').view.WordExact}
    {hsem : DmaTarget.Typed .vmem (.dma ((cc0_scratch4.slice (Rect.unit (s := S32) o S1.size inbr)).squeeze S_ hr).sem) (.remote (Dev.tc (⟨k0_dev5 c, hd⟩ : Dev nD) : Thread nD τ) (chunkM off inb' : Memref sig .tc .vmem S128x4096 .fp8e5m2) (.dma ((cc0_scratch3.slice (Rect.unit (s := S15) ![n] S1.size inbs)).squeeze S_ hs).sem) hsc)}
    {α : Type} {Q : α → sProp 𝕄} {kk : PUnit → Prog (TpuEff nD τ sig (Elt F) Λ₀ .tc) α}
    (h : St m ρ R c (kS + 1) kW kG 0 ⊢ wpc c (kk ⟨⟩) Q) :
    St m ρ R c kS kW kG 0 ⊢ wpc c (Prog.lift (.enqueueDma (chunkM off inb) (.remote (Dev.tc (⟨k0_dev5 c, hd⟩ : Dev nD) : Thread nD τ) (chunkM off inb') (.dma ((cc0_scratch3.slice (Rect.unit (s := S15) ![n] S1.size inbs)).squeeze S_ hs).sem) hsc)
      (.dma ((cc0_scratch4.slice (Rect.unit (s := S32) o S1.size inbr)).squeeze S_ hr).sem) hsrc hdst hsem) >>= kk) Q := by
  obtain ⟨rfl, rfl, hg, hrt, hp⟩ := hk
  exact st_send m ρ R c k _ (Fin.ext ((devL_eq c).trans (congrArg Fin.val (show prv c = tgt c k by unfold tgt; rw [if_neg (by rw [hrt]; decide)])))) hg hoff
    (sSemL_eq k n ⟨hrt, hp⟩ _ _) (rSem_eq _ _ ho _ _) h

/-- The wait for the chunk of turn `g`. -/
theorem recv (R : sProp 𝕄) {kS kW kG : ℕ} (c : Dev nD) (g : Fin 32) (hg : g.val = kW + 2 ∧ kS ≤ kR g ∧ kS ≤ kL g ∧ ∀ k : Fin 30, kS ≤ k.val → g.val < (arr k).val)
    {o : Fin 1 → ℕ} (ho : o = ![(sl c g).val]) {inbr hr}
    {off off' : Fin 3 → ℕ} {inb inb'} {hsrc : (chunkM off inb : Memref sig .tc .vmem S128x4096 .fp8e5m2).view.WordExact} {hdst : (chunkM off' inb' : Memref sig .tc .vmem S128x4096 .fp8e5m2).view.WordExact}
    {α : Type} {Q : α → sProp 𝕄} {kk : PUnit → Prog (TpuEff nD τ sig (Elt F) Λ₀ .tc) α}
    (h : St m ρ R c kS (kW + 1) kG 0 ⊢ wpc c (kk ⟨⟩) Q) :
    St m ρ R c kS kW kG 0 ⊢ wpc c (Prog.lift (.waitDma2 ((cc0_scratch4.slice (Rect.unit (s := S32) o S1.size inbr)).squeeze S_ hr).sem (chunkM off inb) (chunkM off' inb') hsrc hdst) >>= kk) Q :=
  st_wait m ρ R c g hg.1 hg.2.1 hg.2.2.1 hg.2.2.2 (rSem_eq _ _ ho _ _) h

/-- The wait on the send cell of transfer `k`, one to the right; -/
theorem drainR (R : sProp 𝕄) {kG kD : ℕ} (c : Dev nD) (k : Fin 30) {n : ℕ} (hk : drain k = kD ∧ rt k = true ∧ pos k = n) {inbs hs}
    {off off' : Fin 3 → ℕ} {inb inb'} {hsrc : (chunkM off inb : Memref sig .tc .vmem S128x4096 .fp8e5m2).view.WordExact} {hdst : (chunkM off' inb' : Memref sig .tc .vmem S128x4096 .fp8e5m2).view.WordExact}
    {α : Type} {Q : α → sProp 𝕄} {kk : PUnit → Prog (TpuEff nD τ sig (Elt F) Λ₀ .tc) α}
    (h : St m ρ R c 30 30 kG (kD + 1) ⊢ wpc c (kk ⟨⟩) Q) :
    St m ρ R c 30 30 kG kD ⊢ wpc c (Prog.lift (.waitDma2 ((cc0_scratch2.slice (Rect.unit (s := S15) ![n] S1.size inbs)).squeeze S_ hs).sem (chunkM off inb) (chunkM off' inb') hsrc hdst) >>= kk) Q :=
  st_drain m ρ R c k hk.1 (sSemR_eq k n hk.2 _ _) h

/-- one to the left. -/
theorem drainL (R : sProp 𝕄) {kG kD : ℕ} (c : Dev nD) (k : Fin 30) {n : ℕ} (hk : drain k = kD ∧ rt k = false ∧ pos k = n) {inbs hs}
    {off off' : Fin 3 → ℕ} {inb inb'} {hsrc : (chunkM off inb : Memref sig .tc .vmem S128x4096 .fp8e5m2).view.WordExact} {hdst : (chunkM off' inb' : Memref sig .tc .vmem S128x4096 .fp8e5m2).view.WordExact}
    {α : Type} {Q : α → sProp 𝕄} {kk : PUnit → Prog (TpuEff nD τ sig (Elt F) Λ₀ .tc) α}
    (h : St m ρ R c 30 30 kG (kD + 1) ⊢ wpc c (kk ⟨⟩) Q) :
    St m ρ R c 30 30 kG kD ⊢ wpc c (Prog.lift (.waitDma2 ((cc0_scratch3.slice (Rect.unit (s := S15) ![n] S1.size inbs)).squeeze S_ hs).sem (chunkM off inb) (chunkM off' inb') hsrc hdst) >>= kk) Q :=
  st_drain m ρ R c k hk.1 (sSemL_eq k n hk.2 _ _) h

/-! ## Parts in a row -/

/-- A part, then the rest of the kernel: the part reaches `B` with a result of which `P` holds. -/
theorem seq {α β : Type} (P : α → Prop) (B : sProp 𝕄) {A : sProp 𝕄} {c : Dev nD} {p : Prog (TpuEff nD τ sig (Elt F) Λ₀ .tc) α} {k : α → Prog (TpuEff nD τ sig (Elt F) Λ₀ .tc) β} {Q : β → sProp 𝕄}
    (h₁ : A ⊢ wpc c p fun a => iprop(⌜P a⌝ ∗ B)) (h₂ : ∀ a, P a → B ⊢ wpc c (k a) Q) : A ⊢ wpc c (p >>= k) Q := by
  refine h₁.trans ?_
  show _ ⊢ wp _ _ _ _ _
  rw [wp_bind]
  refine wp_mono _ _ _ fun a => ?_
  iintro ⟨%hp, HB⟩
  iapply (h₂ a hp)
  iexact HB

/-- A part's end. -/
theorem ends {α : Type} {P : α → Prop} {B : sProp 𝕄} {c : Dev nD} {a : α} (h : P a) :
    B ⊢ wpc c (pure a : Prog (TpuEff nD τ sig (Elt F) Λ₀ .tc) α) fun a => iprop(⌜P a⌝ ∗ B) := by
  show _ ⊢ wp _ _ _ _ _
  rw [wp_pure]
  iintro H
  imodintro
  isplitr; · ipureintro; exact h
  iexact H

/-! ## The start -/

/-- The staged operands, which the kernel only reads. -/
def held (c : Dev nD) : sProp 𝕄 :=
  iprop((((c : Thread nD τ).loc cc0_stg0_0) ↦{fullShare} xstg m ρ c) ∗ (((c : Thread nD τ).loc cc0_stg1_0) ↦{fullShare} wstg m ρ c)
    ∗ (((c : Thread nD τ).loc cc0_stg2_0) ↦{fullShare} sxstg m ρ c) ∗ (((c : Thread nD τ).loc cc0_stg3_0) ↦{fullShare} swstg m ρ c))

/-- What stays beside the exchange: the barrier cell past its round, and the staged operands. -/
def aside (c : Dev nD) : sProp 𝕄 := iprop(atPos ERnd (barCell c) 1 ∅ 0 ∗ held m ρ c)

/-- What transfer `k` starts with: the tokens of the two duties it performs and the position of its send cell. -/
def send₀ (c : Dev nD) (k : Fin 30) : sProp 𝕄 :=
  iprop(dutyTok ERnd (sCell c k) 0 false ∗ dutyTok ERnd (rCell (tgt c k) (sl c (src k))) 0 false ∗ atPos ERnd (sCell c k) 0 ∅ 0)
/-- What turn `g` starts with: the position of its receive cell, and the cell's credit if a chunk is to arrive. -/
def turn₀ (c : Dev nD) (g : Fin 32) : sProp 𝕄 :=
  iprop(atPos ERnd (rCell c (sl c g)) 0 ∅ 0 ∗ if g.val < 2 then emp else cred (tallyAt (rCell c (sl c g)) () N))

/-- What the launch leaves device `c` of the schedule. -/
def ready (c : Dev nD) : sProp 𝕄 :=
  iprop(records m ρ ∗ levAts L lv ∗ atPos ERnd (barCell c) 0 ∅ 0 ∗ dutyTok ERnd (barCell (prv c)) 0 true ∗ dutyTok ERnd (barCell (nxt c)) 0 false
    ∗ cred (tallyAt (barCell c) () 2) ∗ bigSep Finset.univ (send₀ c) ∗ bigSep Finset.univ (turn₀ c))

/-- Before the kernel: the schedule's part, what is owed, the two scratch buffers, the result's buffer and the operands. -/
def start (c : Dev nD) : sProp 𝕄 :=
  iprop(ready m ρ c ∗ (∃ W, owes (c : Thread nD τ) (O₀ c) W) ∗ (∃ f, ((c : Thread nD τ).loc cc0_scratch0) ↦{fullShare} f)
    ∗ (∃ f, ((c : Thread nD τ).loc cc0_scratch1) ↦{fullShare} f) ∗ (∃ f, ((c : Thread nD τ).loc cc0_stg4_0) ↦{fullShare} f) ∗ held m ρ c)

/-- After the barrier and the device's own two chunks. -/
def mid (c : Dev nD) : sProp 𝕄 :=
  iprop(records m ρ ∗ levAts L lv ∗ (∃ W, owes (c : Thread nD τ) (Ow c 0) W) ∗ bigSep Finset.univ (sendB c 0 0) ∗ bigSep Finset.univ (turnB m ρ c 0 0 0)
    ∗ (∃ f, ((c : Thread nD τ).loc cc0_scratch1) ↦{fullShare} f) ∗ (∃ f, ((c : Thread nD τ).loc cc0_stg4_0) ↦{fullShare} f) ∗ aside m ρ c)

/-- A family over the turns: the device's own two, and one for each arrival. -/
theorem turns_arr (Φ : Fin 32 → sProp 𝕄) : bigSep Finset.univ Φ = iprop(Φ 0 ∗ Φ 1 ∗ bigSep Finset.univ fun k : Fin 30 => Φ (arr k)) := by
  have h : (Finset.univ : Finset (Fin 32)) = insert 0 (insert 1 (Finset.univ.map ⟨arr, arr_inj⟩)) := by decide
  rw [h, bigSep_insert (by decide), bigSep_insert (by decide), bigSep_map]
  rfl

/-- A family over the transfers, by direction. -/
theorem by_route (Φ : Fin 30 → sProp 𝕄) :
    bigSep Finset.univ Φ = iprop(bigSep (Finset.univ.filter fun k => rt k = true) Φ ∗ bigSep (Finset.univ.filter fun k => rt k = false) Φ) := by
  rw [bigSep_filter_split Finset.univ (fun k => rt k = true)]
  rw [show (Finset.univ.filter fun k => ¬ rt k = true) = (Finset.univ.filter fun k : Fin 30 => rt k = false) from Finset.filter_congr fun k _ => by simp]
  rfl

/-- The chunk buffer, slot by slot in the order of the turns. -/
theorem slots_split (c : Dev nD) (f : (cc0_scratch0 : Ref sig .tc).ty.Contents (Elt F)) :
    ((((c : Thread nD τ).loc cc0_scratch0) ↦{fullShare} f) : sProp 𝕄) = bigSep Finset.univ fun g : Fin 32 => slPts c (sl c g) fullShare f := by
  have hu : (Finset.univ : Finset S32x128x4096.Idx) = (Finset.univ : Finset (Fin 32)).biUnion fun g => slot (sl c g) := by
    ext i
    simp only [Finset.mem_univ, Finset.mem_biUnion, true_and, true_iff, mem_slot]
    exact ⟨turn c ⟨(i 0).val, (i 0).isLt⟩, by rw [sl_turn]⟩
  have hd : ∀ g ∈ (Finset.univ : Finset (Fin 32)), ∀ g' ∈ (Finset.univ : Finset (Fin 32)), g ≠ g' → Disjoint (slot (sl c g)) (slot (sl c g')) := by
    intro g _ g' _ hne
    rw [Finset.disjoint_left]
    intro i hi hi'
    exact hne (sl_inj c (Fin.ext ((mem_slot.mp hi).symm.trans (mem_slot.mp hi'))))
  exact (congrArg (fun I : Finset S32x128x4096.Idx => (((c : Thread nD τ).loc cc0_scratch0) ↦[I]{fullShare} f : sProp 𝕄)) hu).trans
    (pointsTo_biUnion (ℓ := (c : Thread nD τ).loc cc0_scratch0) Finset.univ (fun g => slot (sl c g)) hd)

/-- The slot of arrival `k`, given to the device `n` that fills it. -/
theorem give (c n : Dev nD) (k : Fin 30) (h : tgt n k = c) (f) : slPts (F := F) c (sl c (arr k)) fullShare f ⊢ dstPts n k := by
  unfold dstPts
  rw [← sl_tgt n k, h]
  iintro H
  iexists f; iexact H

/-- The slots given to one neighbour are what the signal to it carries. -/
theorem give_all (c n : Dev nD) (d : Bool) (h : ∀ k, rt k = d → tgt n k = c) (f) :
    bigSep (Finset.univ.filter fun k => rt k = d) (fun k => slPts (F := F) c (sl c (arr k)) fullShare f) ⊢ barPay n d := by
  unfold barPay
  exact bigSep_mono fun k hk => give c n k (h k (Finset.mem_filter.mp hk).2) f

/-- One of the device's own chunks put into its slot. -/
theorem put_own (c : Dev nD) (t : Fin 32) (ht : t.val < 2) {off : Fin 3 → ℕ} (hoff : off = ![(sl c t).val, 0, 0]) {inb} {o : Fin 2 → ℕ} (ho : o = ![128 * t.val, 0]) {inb'}
    (f : (cc0_scratch0 : Ref sig .tc).ty.Contents (Elt F))
    {hl hl'} {hx : (commM.access (Rect.unit (s := S32x128x4096) off S1x128x4096.size inb)).Stores Finset.univ} {hm}
    {α : Type} {Q : α → sProp 𝕄} {kk : PUnit → Prog (TpuEff nD τ sig (Elt F) Λ₀ .tc) α} :
    iprop((((c : Thread nD τ).loc cc0_stg0_0) ↦{fullShare} xstg m ρ c) ∗ slPts c (sl c t) fullShare f)
      ⊢ iprop((((((c : Thread nD τ).loc cc0_stg0_0) ↦{fullShare} xstg m ρ c) ∗ slPts c (sl c t) fullShare (comm m ρ)) -∗ wpc c (kk ⟨⟩) Q)
        -∗ wpc c (.op (.load (Memref.whole cc0_stg0_0 : Memref sig .tc .vmem S256x4096 .fp8e5m2) (Rect.unit (s := S256x4096) o S128x4096.size inb').toLoadRect hl) fun v =>
            .op (.load commM (Rect.unit (s := S32x128x4096) off S1x128x4096.size inb).toLoadRect hl') fun _ =>
              .op (.store commM (Rect.unit (s := S32x128x4096) off S1x128x4096.size inb) (k0_pay1 v) Finset.univ hx hm) kk) Q) := by
  have hset := setOn_slot (sl c t) off hoff inb
  have hset' : (commM.access (Rect.unit (s := S32x128x4096) off S1x128x4096.size inb)).setOn Finset.univ ⊆ slot (sl c t) :=
    le_of_eq ((View.setOn_univ _).trans (access_slot (sl c t) off hoff inb))
  have hval := own_slot m ρ c t ht off hoff inb o ho inb' f
  unfold slPts
  iintro ⟨Hx, Hs⟩ Hk
  iapply (wp_load 𝒱₀ (c : Thread nD τ) none Set.univ (m := (Memref.whole cc0_stg0_0 : Memref sig .tc .vmem S256x4096 .fp8e5m2)) (Finset.subset_univ _)) $$ Hx
  iintro Hx
  iapply (wp_load 𝒱₀ (c : Thread nD τ) none Set.univ (m := commM) (S := slot (sl c t)) (f := f) (le_of_eq hset)) $$ Hs
  iintro Hs
  iapply (wp_store 𝒱₀ (c : Thread nD τ) none Set.univ (m := commM) (r := Rect.unit (s := S32x128x4096) off S1x128x4096.size inb) (Mk := Finset.univ) (S := slot (sl c t)) (f := f) hset') $$ Hs
  iintro Hs
  ihave Hs := (Entails.of_eq (pointsTo_congr (ℓ := (c : Thread nD τ).loc cc0_scratch0) (I := slot (sl c t)) (q := fullShare) hval)) $$ Hs
  iapply Hk
  isplitl [Hx]; · iexact Hx
  iexact Hs

/-- The turns at the start: the device's own two chunks are there. -/
theorem turns_start (c : Dev nD) :
    iprop(bigSep Finset.univ (turn₀ c) ∗ slPts c (sl c 0) fullShare (comm m ρ) ∗ slPts c (sl c 1) fullShare (comm m ρ)) ⊢ bigSep Finset.univ (turnB m ρ c 0 0 0) := by
  have own : ∀ g : Fin 32, g.val < 2 → iprop(turn₀ c g ∗ slPts c (sl c g) fullShare (comm m ρ)) ⊢ turnB m ρ c 0 0 0 g := by
    intro g hg
    unfold turn₀ turnB side
    rw [if_pos hg, if_pos (show g.val < 0 + 2 from hg), if_neg (show ¬ (kR g < 0 ∧ 0 ≤ dr (kR g)) by omega), if_neg (show ¬ (kL g < 0 ∧ 0 ≤ dr (kL g)) by omega), if_pos hg]
    iintro ⟨⟨Ha, -⟩, Hs⟩
    ihave Hs := (slPts_split c (sl c g) (comm m ρ)).1 $$ Hs
    icases Hs with ⟨H1, H2, H3⟩
    isplitl [H3]; · iexact H3
    isplitl [H1]; · iexact H1
    isplitl [H2] <;> iassumption
  have come : ∀ k : Fin 30, turn₀ (F := F) c (arr k) = turnB m ρ c 0 0 0 (arr k) := by
    intro k
    have := two_le_arr k
    unfold turn₀ turnB
    rw [if_neg (show ¬ (arr k).val < 2 by omega), if_neg (show ¬ (arr k).val < 0 + 2 by omega)]
  rw [turns_arr, turns_arr, bigSep_congr (fun k _ => come k)]
  iintro ⟨⟨H0, H1, H⟩, Hs0, Hs1⟩
  isplitl [H0 Hs0]
  · iapply (own 0 (by decide))
    isplitl [H0] <;> iassumption
  isplitl [H1 Hs1]
  · iapply (own 1 (by decide))
    isplitl [H1] <;> iassumption
  iexact H

/-- The transfers at the start: each has its destination. -/
theorem sends_start (c : Dev nD) : iprop(bigSep Finset.univ (send₀ (F := F) c) ∗ bigSep Finset.univ fun k => dstPts c k) ⊢ bigSep Finset.univ (sendB c 0 0) := by
  rw [← bigSep_sep']
  refine bigSep_mono fun k _ => ?_
  unfold send₀ sendB
  rw [if_pos (Nat.zero_le _)]
  show iprop((dutyTok ERnd (sCell c k) 0 false ∗ dutyTok ERnd (rCell (tgt c k) (sl c (src k))) 0 false ∗ atPos ERnd (sCell c k) 0 ∅ 0) ∗ dstPts (F := F) c k)
    ⊢ (iprop(dutyTok ERnd (sCell c k) 0 false ∗ dutyTok ERnd (rCell (tgt c k) (sl c (src k))) 0 false ∗ dstPts (F := F) c k ∗ atPos ERnd (sCell c k) 0 ∅ 0) : sProp 𝕄)
  iintro ⟨⟨H1, H2, H3⟩, Hd⟩
  isplitl [H1]; · iexact H1
  isplitl [H2]; · iexact H2
  isplitl [Hd] <;> iassumption

/-- The first part: the barrier with both neighbours, each given the slots it fills, and the device's own two chunks stored. -/
theorem part1 (c : Dev nD) :
    start m ρ c ⊢ wpc c (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4) fun a => iprop(⌜c = a.1⌝ ∗ mid m ρ c) := by
  rw [k0_part1_eq_skeleton]; unfold k0_part1_skel
  simp only [semSignalWord, semWaitWord, Prog.lift, Prog.bind_op, Prog.bind_ret, Prog.pure_eq_ret, Prog.bind_assoc, wp_deviceId]
  simp only [dev1_eq c, dev2_eq c]
  unfold start ready held
  iintro ⟨⟨#Hrec, #Hlev, Hat, Htp, Htn, Hcr, HS, HT⟩, ⟨%W, HO⟩, ⟨%f, Hcomm⟩, Hw, Hout, Hx, Hheld⟩
  ihave Hs := (Entails.of_eq (slots_split c f)) $$ Hcomm
  ihave Hs := (Entails.of_eq (turns_arr fun g => slPts c (sl c g) fullShare f)) $$ Hs
  icases Hs with ⟨Hs0, Hs1, Hs⟩
  ihave Hs := (Entails.of_eq (by_route fun k => slPts c (sl c (arr k)) fullShare f)) $$ Hs
  icases Hs with ⟨Hsr, Hsl⟩
  ihave Hsr := (give_all c (prv c) true (fun k hk => by unfold tgt; rw [if_pos hk, nxt_prv]) f) $$ Hsr
  ihave Hsl := (give_all c (nxt c) false (fun k hk => by unfold tgt; rw [if_neg (by rw [hk]; decide), prv_nxt]) f) $$ Hsl
  ihave Hp := (record_at m ρ (prv c) 0) $$ Hrec
  ihave Hn := (record_at m ρ (nxt c) 0) $$ Hrec
  ihave Hb := (record_at m ρ c 0) $$ Hrec
  icases Hp with ⟨%κp, #HIp, #Hrp⟩
  icases Hn with ⟨%κn, #HIn, #Hrn⟩
  icases Hb with ⟨%κb, #HIb, -⟩
  unfold O₀
  iapply (Rounds.wp_signal 𝒱₀ ERnd (plan m ρ) (c : Thread nD τ) none (dst := (prv c : Thread nD τ)) (κ := κp)
      (d := true) (by rw [duties_bar]; exact Finset.mem_univ _) ((amount_bar m ρ (prv c) true).trans (by decide)) () (O₁ c) rfl) $$ [HO Htp Hsr]
  · isplitr; · iexact HIp
    isplitl [HO]; · iexact HO
    isplitl [Htp]; · iexact Htp
    isplitl [Hsr]
    · rw [payload_bar]; iexact Hsr
    · iexact Hrp
  iintro HO
  unfold O₁
  iapply (Rounds.wp_signal 𝒱₀ ERnd (plan m ρ) (c : Thread nD τ) none (dst := (nxt c : Thread nD τ)) (κ := κn)
      (d := false) (by rw [duties_bar]; exact Finset.mem_univ _) ((amount_bar m ρ (nxt c) false).trans (by decide)) () (Ow c 0) rfl) $$ [HO Htn Hsl]
  · isplitr; · iexact HIn
    isplitl [HO]; · iexact HO
    isplitl [Htn]; · iexact Htn
    isplitl [Hsl]
    · rw [payload_bar]; iexact Hsl
    · iexact Hrn
  iintro HO
  iapply (Rounds.wp_wait_rest_token 𝒱₀ ERnd (plan m ρ) (c : Thread nD τ) none (κ := κb)
      (wpE_semWait_eq 𝒱₀ (c : Thread nD τ) none Set.univ) (Set.mem_univ _) () (O := Ow c 0) (W := W) (R := 0) (m := 0) (T := ∅)
      (by rw [expect_bar]; decide)) $$ [Hcr HO Hat]
  · isplitr; · iexact HIb
    isplitl [Hcr]; · iexact Hcr
    isplitl [HO]; · iexact HO
    isplitr; · iapply (mayWait_bar c); iexact Hlev
    iexact Hat
  iintro ⟨HO, Hat, -, Hpay⟩
  ihave Hd := (Entails.of_eq (rest_bar m ρ c)) $$ Hpay
  iapply (put_own m ρ c 0 (by decide) (off1_eq c) rfl f) $$ [Hx Hs0]
  · isplitl [Hx] <;> iassumption
  iintro ⟨Hx, Hs0⟩
  iapply (put_own m ρ c 1 (by decide) (off2_eq c) rfl f) $$ [Hx Hs1]
  · isplitl [Hx] <;> iassumption
  iintro ⟨Hx, Hs1⟩
  unfold wpc; rw [wp_ret]; imodintro
  isplitr; · ipureintro; rfl
  unfold mid aside held
  isplitr; · iexact Hrec
  isplitr; · iexact Hlev
  isplitl [HO]; · iexists _; iexact HO
  isplitl [HS Hd]
  · iapply (sends_start c)
    isplitl [HS]; · iexact HS
    iexact Hd
  isplitl [HT Hs0 Hs1]
  · iapply (turns_start m ρ c)
    isplitl [HT]; · iexact HT
    isplitl [Hs0] <;> iassumption
  isplitl [Hw]; · iexact Hw
  isplitl [Hout]; · iexact Hout
  isplitl [Hat]; · iexact Hat
  isplitl [Hx] <;> iassumption

theorem zero1 : (![0] : Fin 1 → ℕ) = fun _ => 0 := by funext a; fin_cases a; rfl

/-- A one-element buffer's load reads its element. -/
theorem ix1_eq (x : S1.Idx) : x = ix1 := by
  funext a; apply Fin.ext
  have h : (x a).val < 1 := by have := (x a).isLt; fin_cases a; exact this
  show (x a).val = 0; omega

set_option maxHeartbeats 800000 in
/-- The right operand kept in its scratch buffer and the two scales read: the exchange begins. -/
theorem opening (c : Dev nD) {inb inb' inb₁ inb₂ hl hl'} {hx : (w8M.access (Rect.unit (s := S4096x512) ![0, 0] S4096x512.size inb')).Stores Finset.univ} {hm n₁ n₂ p₁ p₂}
    {α : Type} {Q : α → sProp 𝕄} {kk : F .f32 → F .f32 → Prog (TpuEff nD τ sig (Elt F) Λ₀ .tc) α}
    (h : St m ρ (aside m ρ c) c 0 0 0 0 ⊢ wpc c (kk (sxstg m ρ c ix1) (swstg m ρ c ix1)) Q) :
    mid m ρ c ⊢ wpc c (Prog.lift (.load (Memref.whole cc0_stg1_0 : Memref sig .tc .vmem S4096x512 .fp8e5m2) (Rect.unit (s := S4096x512) ![0, 0] S4096x512.size inb).toLoadRect hl) >>= fun v =>
      Prog.lift (.load w8M (Rect.unit (s := S4096x512) ![0, 0] S4096x512.size inb').toLoadRect hl') >>= fun _ =>
      Prog.lift (.store w8M (Rect.unit (s := S4096x512) ![0, 0] S4096x512.size inb') (k0_pay3 v) Finset.univ hx hm) >>= fun _ =>
      smemLoad (Memref.whole cc0_stg2_0 : Memref sig .tc .smem S1 .f32) (Rect.unit (s := S1) ![0] S1.size inb₁) n₁ p₁ >>= fun a =>
      smemLoad (Memref.whole cc0_stg3_0 : Memref sig .tc .smem S1 .f32) (Rect.unit (s := S1) ![0] S1.size inb₂) n₂ p₂ >>= fun b => kk a b) Q := by
  simp only [smemLoad, smemLoadElt, Prog.lift, Prog.bind_op, Prog.bind_ret]
  unfold mid aside held
  unfold St aside held at h
  iintro ⟨#Hrec, #Hlev, HO, HS, HT, ⟨%f, Hw⟩, ⟨%g, Hout⟩, Hat, Hx, Hw1, Hsx, Hsw⟩
  iapply (wp_load 𝒱₀ (c : Thread nD τ) none Set.univ (m := (Memref.whole cc0_stg1_0 : Memref sig .tc .vmem S4096x512 .fp8e5m2)) (Finset.subset_univ _)) $$ Hw1
  iintro Hw1
  rw [read_w]
  iapply (wp_load 𝒱₀ (c : Thread nD τ) none Set.univ (m := w8M) (Finset.subset_univ _)) $$ Hw
  iintro Hw
  iapply (wp_store 𝒱₀ (c : Thread nD τ) none Set.univ (m := w8M) (r := Rect.unit (s := S4096x512) ![0, 0] S4096x512.size inb') (Mk := Finset.univ) (S := Finset.univ) (f := f) (Finset.subset_univ _)) $$ Hw
  iintro Hw
  rw [write_w8]
  iapply (wp_load 𝒱₀ (c : Thread nD τ) none Set.univ (m := (Memref.whole cc0_stg2_0 : Memref sig .tc .smem S1 .f32)) (Finset.subset_univ _)) $$ Hsx
  iintro Hsx
  iapply (wp_load 𝒱₀ (c : Thread nD τ) none Set.univ (m := (Memref.whole cc0_stg3_0 : Memref sig .tc .smem S1 .f32)) (Finset.subset_univ _)) $$ Hsw
  iintro Hsw
  rw [show (Memref.whole cc0_stg2_0 : Memref sig .tc .smem S1 .f32).view.readAt (Elt F) (Rect.unit (s := S1) ![0] S1.size inb₁).toLoadRect (sxstg m ρ c) = sxstg m ρ c from Memref.readAt_unit_zero (Elt F) cc0_stg2_0 zero1 _ _,
    show (Memref.whole cc0_stg3_0 : Memref sig .tc .smem S1 .f32).view.readAt (Elt F) (Rect.unit (s := S1) ![0] S1.size inb₂).toLoadRect (swstg m ρ c) = swstg m ρ c from Memref.readAt_unit_zero (Elt F) cc0_stg3_0 zero1 _ _]
  rw [show ∀ x : S1.Idx, sxstg m ρ c x = sxstg m ρ c ix1 from fun x => by rw [ix1_eq x], show ∀ x : S1.Idx, swstg m ρ c x = swstg m ρ c ix1 from fun x => by rw [ix1_eq x]]
  iapply h
  isplitr; · iexact Hrec
  isplitr; · iexact Hlev
  isplitl [HO]; · iexact HO
  isplitl [HS]; · iexact HS
  isplitl [HT]; · iexact HT
  isplitl [Hw]; · iexact Hw
  isplitl [Hout]
  · iexists g; isplitr; · (ipureintro; exact done_zero m ρ c g)
    iexact Hout
  isplitl [Hat]; · iexact Hat
  isplitl [Hx]; · iexact Hx
  isplitl [Hw1]; · iexact Hw1
  isplitl [Hsx] <;> iassumption

/-- The second part: the opening and the first transfer. -/
theorem part2 (c : Dev nD) (v2 v7 : BitVec 32) :
    mid m ρ c ⊢ wpc c (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4 c v2 v7) fun a => iprop(⌜a = scale m ρ c⌝ ∗ St m ρ (aside m ρ c) c 1 0 0 0) := by
  rw [k0_part2_eq_skeleton]; unfold k0_part2_skel
  refine opening m ρ c ?_
  refine sendR m ρ (aside m ρ c) c 0 0 (by decide) (off4_eq c 0) (off3_eq c 0) ?_
  exact ends rfl

/-! ## The end -/

/-- The index of transfer `k`'s send cell among a device's cells; -/
def iS (k : Fin 30) : Fin 63 := ⟨((sSem k).val - 4) % 63, Nat.mod_lt _ (by decide)⟩
/-- of slot `v`'s receive cell. -/
def iR (v : Fin 32) : Fin 63 := ⟨(31 + v.val) % 63, Nat.mod_lt _ (by decide)⟩
theorem iS_inj : Function.Injective iS := by decide
theorem iR_inj : Function.Injective iR := by decide
theorem univ_cells : (Finset.univ : Finset (Fin 63)) = insert 0 (Finset.univ.map ⟨iS, iS_inj⟩ ∪ Finset.univ.map ⟨iR, iR_inj⟩) := by decide
theorem csem_iS : ∀ k : Fin 30, csem (iS k) = .dma (sSem k) := by decide
theorem csem_iR : ∀ v : Fin 32, csem (iR v) = .dma (rSem v) := by decide

/-- The cells of device `c`: the barrier's, the send cells, and the receive cells in the order of the turns. -/
theorem cells_split (c : Dev nD) (Φ : SemLoc sig → sProp 𝕄) : bigSep Finset.univ (fun i : Fin 63 => Φ (csem i))
    = iprop(Φ (.reg barS) ∗ (bigSep Finset.univ fun k : Fin 30 => Φ (.dma (sSem k))) ∗ bigSep Finset.univ fun g : Fin 32 => Φ (.dma (rSem (sl c g)))) := by
  rw [univ_cells, bigSep_insert (by decide), bigSep_union (by decide), bigSep_map, bigSep_map, bigSep_univ_equiv (slEquiv c) (fun v : Fin 32 => Φ (csem ((⟨iR, iR_inj⟩ : Fin 32 ↪ Fin 63) v)))]
  refine congrArg₂ BI.sep rfl (congrArg₂ BI.sep ?_ ?_)
  · exact bigSep_congr fun k _ => congrArg Φ (csem_iS k)
  · exact bigSep_congr fun g _ => congrArg Φ (csem_iR (slEquiv c g))

/-- A cell past its last round closes, its counter at zero. -/
theorem close_at (c : Dev nD) (sm : SemLoc sig) (R : ℕ) (hR : ∀ r, R ≤ r → (plan (F := F) m ρ).duties ((c : Thread nD τ), sm) r = ∅)
    (hrec : records (F := F) m ρ ⊢ iprop(∃ κ, cellInv ERnd (plan m ρ) κ ((c : Thread nD τ), sm) ∗ reached ERnd ((c : Thread nD τ), sm) 0)) :
    iprop(records m ρ ∗ atPos ERnd ((c : Thread nD τ), sm) R ∅ 0) ⊢ iprop(|={Set.univ}=> semVal ((c : Thread nD τ), sm) 0) := by
  iintro ⟨#Hrec, Hat⟩
  ihave Hs := hrec $$ Hrec
  icases Hs with ⟨%κ, #HI, -⟩
  iapply (Rounds.cell_close ERnd (plan m ρ) (Set.mem_univ κ) (fun h => h) (R := R) hR)
  isplitr; · iexact HI
  iexact Hat

/-- What the kernel leaves: nothing owed, the two scratch buffers, the result, the operands, every counter at zero. -/
def finish (c : Dev nD) : sProp 𝕄 :=
  iprop((∃ W, owes (c : Thread nD τ) 0 W) ∗ (((c : Thread nD τ).loc cc0_scratch0) ↦{fullShare} comm m ρ) ∗ (((c : Thread nD τ).loc cc0_scratch1) ↦{fullShare} wkeep m ρ c)
    ∗ (((c : Thread nD τ).loc cc0_stg4_0) ↦{fullShare} outF m ρ c) ∗ held m ρ c ∗ bigSep Finset.univ fun i : Fin 63 => semVal ((c : Thread nD τ), csem i) 0)

/-- The last turns' chunks, whole again, and their cells closed. -/
theorem turn_end (c : Dev nD) (g : Fin 32) :
    iprop(records m ρ ∗ turnB m ρ c 30 30 30 g) ⊢ iprop(|={Set.univ}=> (slPts c (sl c g) fullShare (comm m ρ) ∗ semVal (rCell c (sl c g)) 0)) := by
  have hd : ∀ n, ¬ (n < 30 ∧ 30 ≤ dr n) := by
    rintro n ⟨h, h'⟩
    have : ∀ k : Fin 30, drain k < 30 := by decide
    unfold dr at h'; rw [dif_pos h] at h'
    have := this ⟨n, h⟩; omega
  unfold turnB side
  rw [if_pos (show g.val < 30 + 2 from g.isLt), if_neg (hd _), if_neg (hd _)]
  iintro ⟨#Hrec, H3, H1, H2, Hat⟩
  imod (close_at m ρ c (.dma (rSem (sl c g))) (if g.val < 2 then 0 else 1)
    (by
      intro r hr
      by_cases hg : g.val < 2
      · exact duties_none m ρ c _ (own_not_move c g hg) r
      · rw [if_neg hg] at hr; exact duties_later m ρ _ r hr)
    (record_dma m ρ c _ (by rw [rSem_val]; omega))) $$ [Hat] with Hz
  · isplitr; · iexact Hrec
    iexact Hat
  imodintro
  isplitr [Hz]
  · iapply (slPts_split c (sl c g) (comm m ρ)).2
    isplitl [H1]; · iexact H1
    isplitl [H2] <;> iassumption
  iexact Hz

theorem send_end (c : Dev nD) (k : Fin 30) : iprop(records m ρ ∗ sendB c 30 30 k) ⊢ iprop(|={Set.univ}=> semVal (sCell c k) 0) := by
  have hk := k.isLt
  have hd : drain k < 30 := by revert k; decide
  unfold sendB
  rw [if_neg (by omega), if_neg (by omega)]
  exact close_at m ρ c (.dma (sSem k)) 1 (duties_later m ρ _) (record_dma m ρ c _ (sSem_lt k).2)

/-- A family ended member by member. -/
theorem ends_all {I : Type} [DecidableEq I] {S : Finset I} {Φ Ψ : I → sProp 𝕄} (h : ∀ i, iprop(records m ρ ∗ Φ i) ⊢ iprop(|={Set.univ}=> Ψ i)) :
    iprop(records m ρ ∗ bigSep S Φ) ⊢ iprop(|={Set.univ}=> bigSep S Ψ) :=
  (sep_mono_left (BI.bigSep_of_persistent S (records m ρ))).trans (by rw [← bigSep_sep']; exact (bigSep_mono fun i _ => h i).trans (bigSep_fupd _ _))

/-- The exchange's last state is the kernel's end. -/
theorem closing (c : Dev nD) : St m ρ (aside m ρ c) c 30 30 32 30 ⊢ iprop(|={Set.univ}=> finish m ρ c) := by
  unfold St aside finish
  rw [cells_split c (fun sm => semVal ((c : Thread nD τ), sm) 0), slots_split, Ow_last]
  iintro ⟨#Hrec, -, HO, HS, HT, Hw, ⟨%f, %hf, Hout⟩, Hat, Hheld⟩
  imod (close_at m ρ c (.reg barS) 1 (duties_later m ρ _) (record_at m ρ c 0)) $$ [Hat] with Hz
  · isplitr; · iexact Hrec
    iexact Hat
  imod (ends_all m ρ (send_end m ρ c)) $$ [HS] with HS
  · isplitr; · iexact Hrec
    iexact HS
  imod (ends_all m ρ (turn_end m ρ c)) $$ [HT] with HT
  · isplitr; · iexact Hrec
    iexact HT
  ihave HT := (Entails.of_eq (bigSep_sep' Finset.univ (fun g => slPts c (sl c g) fullShare (comm m ρ)) (fun g => semVal (rCell c (sl c g)) 0))) $$ HT
  icases HT with ⟨HT, Hzr⟩
  rw [done_all m ρ c f hf]
  imodintro
  isplitl [HO]; · iexact HO
  isplitl [HT]; · iexact HT
  isplitl [Hw]; · iexact Hw
  isplitl [Hout]; · iexact Hout
  isplitl [Hheld]; · iexact Hheld
  isplitl [Hz]; · iexact Hz
  isplitl [HS] <;> iassumption

end Cert.KernelIdealProof

end
-- ==== Proof.IdealChain.lean ====
/-
# The kernel's run, effect by effect

The printed body is fifty-six parts in a row. `body` takes the state of the exchange through all of them: each line names
one effect and the lemma of `Steps` for it, and each part ends with the counters it has reached.
-/
module

public import proofs.«01_k».proof.Proof.IdealBody

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Ghost ℕ

variable (m : (ℓ : Loc nD τ sig) → Buf (Elt F) ℓ) (ρ : Dev nD → PrngReg)

set_option maxHeartbeats 4000000 in
/-- The kernel from its start to its end. -/
theorem body (c : Dev nD) : start m ρ c ⊢ wpc c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_scratch0) (Memref.isWhole_whole _) (Memref.whole cc0_scratch1) (Memref.isWhole_whole _) cc0_scratch2 cc0_scratch3 cc0_scratch4) fun _ => finish m ρ c := by
  have closes : St m ρ (aside m ρ c) c 30 30 32 30 ⊢ wpc c (pure ⟨⟩ : Prog (TpuEff nD τ sig (Elt F) Λ₀ .tc) PUnit) fun _ => finish m ρ c := closing m ρ c
  rw [cc0_body_eq_skeleton]; unfold cc0_body_skel
  refine seq (fun _ => True) (St m ρ (aside m ρ c) c 30 30 32 28) ?_ fun _ _ => ?_
  · generalize hR : aside m ρ c = R
    rw [k0_part56_eq_skeleton]; unfold k0_part56_skel
    have h1 := part1 m ρ c
    refine seq _ _ h1 ?_
    rintro ⟨d0, v2, v5, v7⟩ hd
    have hd : c = d0 := hd
    subst hd
    have h2 := part2 m ρ c v2 v7
    rw [hR] at h2
    refine seq _ _ h2 ?_
    rintro _ rfl
    refine seq (fun _ => True) (St m ρ R c 4 0 0 0) ?_ fun _ _ => ?_
    · rw [k0_part3_eq_skeleton]; unfold k0_part3_skel
      refine sendR m ρ R c 1 1 (by decide) (off4_eq c 1) (off3_eq c 1) ?_
      refine sendL m ρ R c 2 1 (by decide) (off4_eq c 1) (off3_eq c 1) ?_
      refine sendL m ρ R c 3 0 (by decide) (off4_eq c 0) (off3_eq c 0) ?_
      exact ends trivial
    refine seq (fun a => k0_pay7 a.2.1 a.2.2 = tile m ρ c (sl c 1)) (St m ρ R c 4 0 1 0) ?_ fun ⟨v119, v126, cst⟩ hv => ?_
    · rw [k0_part4_eq_skeleton]; unfold k0_part4_skel
      refine st_chunk m ρ R c 0 (by decide) (off5_eq c 0) ?_
      refine st_keep m ρ R c ?_
      refine st_peek m ρ R c fun _ => ?_
      refine st_store m ρ R c 0 rfl (off6_eq c 0) rfl ?_
      refine st_chunk m ρ R c 1 (by decide) (off5_eq c 1) ?_
      refine st_keep m ρ R c ?_
      exact ends rfl
    refine seq (fun _ => True) (St m ρ R c 4 1 2 0) ?_ fun _ _ => ?_
    · rw [k0_part5_eq_skeleton]; unfold k0_part5_skel
      refine st_peek m ρ R c fun _ => ?_
      refine st_store m ρ R c 1 rfl (off6_eq c 1) hv ?_
      refine recv m ρ R c 2 (by decide) (off3_eq c 2) ?_
      exact ends trivial
    refine seq (fun _ => True) (St m ρ R c 5 2 2 0) ?_ fun _ _ => ?_
    · rw [k0_part6_eq_skeleton]; unfold k0_part6_skel
      refine sendR m ρ R c 4 2 (by decide) (off4_eq c 2) (off3_eq c 2) ?_
      refine recv m ρ R c 3 (by decide) (off3_eq c 3) ?_
      exact ends trivial
    refine seq (fun _ => True) (St m ρ R c 6 3 2 0) ?_ fun _ _ => ?_
    · rw [k0_part7_eq_skeleton]; unfold k0_part7_skel
      refine sendL m ρ R c 5 3 (by decide) (off4_eq c 3) (off3_eq c 3) ?_
      refine recv m ρ R c 4 (by decide) (off3_eq c 4) ?_
      exact ends trivial
    refine seq (fun _ => True) (St m ρ R c 7 4 2 0) ?_ fun _ _ => ?_
    · rw [k0_part8_eq_skeleton]; unfold k0_part8_skel
      refine sendR m ρ R c 6 4 (by decide) (off4_eq c 4) (off3_eq c 4) ?_
      refine recv m ρ R c 5 (by decide) (off3_eq c 5) ?_
      exact ends trivial
    refine seq (fun a => k0_pay12 a.2.1 a.2.2.1 a.2.2.2 = tile m ρ c (sl c 3)) (St m ρ R c 8 4 3 0) ?_ fun ⟨v, v', v'', cst⟩ hv => ?_
    · rw [k0_part9_eq_skeleton]; unfold k0_part9_skel
      refine sendL m ρ R c 7 5 (by decide) (off4_eq c 5) (off3_eq c 5) ?_
      refine st_chunk m ρ R c 2 (by decide) (off5_eq c 2) ?_
      refine st_keep m ρ R c ?_
      refine st_peek m ρ R c fun _ => ?_
      refine st_store m ρ R c 2 rfl (off6_eq c 2) rfl ?_
      refine st_chunk m ρ R c 3 (by decide) (off5_eq c 3) ?_
      refine st_keep m ρ R c ?_
      exact ends rfl
    refine seq (fun a => k0_pay15 a.1 a.2 = tile m ρ c (sl c 5)) (St m ρ R c 8 4 5 0) ?_ fun ⟨v, cst⟩ hv => ?_
    · rw [k0_part10_eq_skeleton]; unfold k0_part10_skel
      refine st_peek m ρ R c fun _ => ?_
      refine st_store m ρ R c 3 rfl (off6_eq c 3) hv ?_
      refine st_chunk m ρ R c 4 (by decide) (off5_eq c 4) ?_
      refine st_keep m ρ R c ?_
      refine st_peek m ρ R c fun _ => ?_
      refine st_store m ρ R c 4 rfl (off6_eq c 4) rfl ?_
      refine st_chunk m ρ R c 5 (by decide) (off5_eq c 5) ?_
      refine st_keep m ρ R c ?_
      exact ends rfl
    refine seq (fun _ => True) (St m ρ R c 8 5 6 0) ?_ fun _ _ => ?_
    · rw [k0_part11_eq_skeleton]; unfold k0_part11_skel
      refine st_peek m ρ R c fun _ => ?_
      refine st_store m ρ R c 5 rfl (off6_eq c 5) hv ?_
      refine recv m ρ R c 6 (by decide) (off3_eq c 6) ?_
      exact ends trivial
    refine seq (fun _ => True) (St m ρ R c 9 6 6 0) ?_ fun _ _ => ?_
    · rw [k0_part12_eq_skeleton]; unfold k0_part12_skel
      refine sendR m ρ R c 8 6 (by decide) (off4_eq c 6) (off3_eq c 6) ?_
      refine recv m ρ R c 7 (by decide) (off3_eq c 7) ?_
      exact ends trivial
    refine seq (fun _ => True) (St m ρ R c 10 7 6 0) ?_ fun _ _ => ?_
    · rw [k0_part13_eq_skeleton]; unfold k0_part13_skel
      refine sendL m ρ R c 9 7 (by decide) (off4_eq c 7) (off3_eq c 7) ?_
      refine recv m ρ R c 8 (by decide) (off3_eq c 8) ?_
      exact ends trivial
    refine seq (fun _ => True) (St m ρ R c 11 8 6 0) ?_ fun _ _ => ?_
    · rw [k0_part14_eq_skeleton]; unfold k0_part14_skel
      refine sendR m ρ R c 10 8 (by decide) (off4_eq c 8) (off3_eq c 8) ?_
      refine recv m ρ R c 9 (by decide) (off3_eq c 9) ?_
      exact ends trivial
    refine seq (fun a => k0_pay20 a.2.1 a.2.2.1 a.2.2.2 = tile m ρ c (sl c 7)) (St m ρ R c 12 8 7 0) ?_ fun ⟨v, v', v'', cst⟩ hv => ?_
    · rw [k0_part15_eq_skeleton]; unfold k0_part15_skel
      refine sendL m ρ R c 11 9 (by decide) (off4_eq c 9) (off3_eq c 9) ?_
      refine st_chunk m ρ R c 6 (by decide) (off5_eq c 6) ?_
      refine st_keep m ρ R c ?_
      refine st_peek m ρ R c fun _ => ?_
      refine st_store m ρ R c 6 rfl (off6_eq c 6) rfl ?_
      refine st_chunk m ρ R c 7 (by decide) (off5_eq c 7) ?_
      refine st_keep m ρ R c ?_
      exact ends rfl
    refine seq (fun a => k0_pay23 a.1 a.2 = tile m ρ c (sl c 9)) (St m ρ R c 12 8 9 0) ?_ fun ⟨v, cst⟩ hv => ?_
    · rw [k0_part16_eq_skeleton]; unfold k0_part16_skel
      refine st_peek m ρ R c fun _ => ?_
      refine st_store m ρ R c 7 rfl (off6_eq c 7) hv ?_
      refine st_chunk m ρ R c 8 (by decide) (off5_eq c 8) ?_
      refine st_keep m ρ R c ?_
      refine st_peek m ρ R c fun _ => ?_
      refine st_store m ρ R c 8 rfl (off6_eq c 8) rfl ?_
      refine st_chunk m ρ R c 9 (by decide) (off5_eq c 9) ?_
      refine st_keep m ρ R c ?_
      exact ends rfl
    refine seq (fun _ => True) (St m ρ R c 12 9 10 0) ?_ fun _ _ => ?_
    · rw [k0_part17_eq_skeleton]; unfold k0_part17_skel
      refine st_peek m ρ R c fun _ => ?_
      refine st_store m ρ R c 9 rfl (off6_eq c 9) hv ?_
      refine recv m ρ R c 10 (by decide) (off3_eq c 10) ?_
      exact ends trivial
    refine seq (fun _ => True) (St m ρ R c 13 10 10 0) ?_ fun _ _ => ?_
    · rw [k0_part18_eq_skeleton]; unfold k0_part18_skel
      refine sendR m ρ R c 12 10 (by decide) (off4_eq c 10) (off3_eq c 10) ?_
      refine recv m ρ R c 11 (by decide) (off3_eq c 11) ?_
      exact ends trivial
    refine seq (fun _ => True) (St m ρ R c 14 11 10 0) ?_ fun _ _ => ?_
    · rw [k0_part19_eq_skeleton]; unfold k0_part19_skel
      refine sendL m ρ R c 13 11 (by decide) (off4_eq c 11) (off3_eq c 11) ?_
      refine recv m ρ R c 12 (by decide) (off3_eq c 12) ?_
      exact ends trivial
    refine seq (fun _ => True) (St m ρ R c 15 12 10 0) ?_ fun _ _ => ?_
    · rw [k0_part20_eq_skeleton]; unfold k0_part20_skel
      refine sendR m ρ R c 14 12 (by decide) (off4_eq c 12) (off3_eq c 12) ?_
      refine recv m ρ R c 13 (by decide) (off3_eq c 13) ?_
      exact ends trivial
    refine seq (fun a => k0_pay28 a.2.1 a.2.2.1 a.2.2.2 = tile m ρ c (sl c 11)) (St m ρ R c 16 12 11 0) ?_ fun ⟨v, v', v'', cst⟩ hv => ?_
    · rw [k0_part21_eq_skeleton]; unfold k0_part21_skel
      refine sendL m ρ R c 15 13 (by decide) (off4_eq c 13) (off3_eq c 13) ?_
      refine st_chunk m ρ R c 10 (by decide) (off5_eq c 10) ?_
      refine st_keep m ρ R c ?_
      refine st_peek m ρ R c fun _ => ?_
      refine st_store m ρ R c 10 rfl (off6_eq c 10) rfl ?_
      refine st_chunk m ρ R c 11 (by decide) (off5_eq c 11) ?_
      refine st_keep m ρ R c ?_
      exact ends rfl
    refine seq (fun a => k0_pay31 a.1 a.2 = tile m ρ c (sl c 13)) (St m ρ R c 16 12 13 0) ?_ fun ⟨v, cst⟩ hv => ?_
    · rw [k0_part22_eq_skeleton]; unfold k0_part22_skel
      refine st_peek m ρ R c fun _ => ?_
      refine st_store m ρ R c 11 rfl (off6_eq c 11) hv ?_
      refine st_chunk m ρ R c 12 (by decide) (off5_eq c 12) ?_
      refine st_keep m ρ R c ?_
      refine st_peek m ρ R c fun _ => ?_
      refine st_store m ρ R c 12 rfl (off6_eq c 12) rfl ?_
      refine st_chunk m ρ R c 13 (by decide) (off5_eq c 13) ?_
      refine st_keep m ρ R c ?_
      exact ends rfl
    refine seq (fun _ => True) (St m ρ R c 16 13 14 0) ?_ fun _ _ => ?_
    · rw [k0_part23_eq_skeleton]; unfold k0_part23_skel
      refine st_peek m ρ R c fun _ => ?_
      refine st_store m ρ R c 13 rfl (off6_eq c 13) hv ?_
      refine recv m ρ R c 14 (by decide) (off3_eq c 14) ?_
      exact ends trivial
    refine seq (fun _ => True) (St m ρ R c 17 14 14 0) ?_ fun _ _ => ?_
    · rw [k0_part24_eq_skeleton]; unfold k0_part24_skel
      refine sendR m ρ R c 16 14 (by decide) (off4_eq c 14) (off3_eq c 14) ?_
      refine recv m ρ R c 15 (by decide) (off3_eq c 15) ?_
      exact ends trivial
    refine seq (fun _ => True) (St m ρ R c 18 15 14 0) ?_ fun _ _ => ?_
    · rw [k0_part25_eq_skeleton]; unfold k0_part25_skel
      refine sendL m ρ R c 17 15 (by decide) (off4_eq c 15) (off3_eq c 15) ?_
      refine recv m ρ R c 16 (by decide) (off3_eq c 16) ?_
      exact ends trivial
    refine seq (fun _ => True) (St m ρ R c 19 16 14 0) ?_ fun _ _ => ?_
    · rw [k0_part26_eq_skeleton]; unfold k0_part26_skel
      refine sendR m ρ R c 18 16 (by decide) (off4_eq c 16) (off3_eq c 16) ?_
      refine recv m ρ R c 17 (by decide) (off3_eq c 17) ?_
      exact ends trivial
    refine seq (fun a => k0_pay36 a.2.1 a.2.2.1 a.2.2.2 = tile m ρ c (sl c 15)) (St m ρ R c 20 16 15 0) ?_ fun ⟨v, v', v'', cst⟩ hv => ?_
    · rw [k0_part27_eq_skeleton]; unfold k0_part27_skel
      refine sendL m ρ R c 19 17 (by decide) (off4_eq c 17) (off3_eq c 17) ?_
      refine st_chunk m ρ R c 14 (by decide) (off5_eq c 14) ?_
      refine st_keep m ρ R c ?_
      refine st_peek m ρ R c fun _ => ?_
      refine st_store m ρ R c 14 rfl (off6_eq c 14) rfl ?_
      refine st_chunk m ρ R c 15 (by decide) (off5_eq c 15) ?_
      refine st_keep m ρ R c ?_
      exact ends rfl
    refine seq (fun a => k0_pay39 a.1 a.2 = tile m ρ c (sl c 17)) (St m ρ R c 20 16 17 0) ?_ fun ⟨v, cst⟩ hv => ?_
    · rw [k0_part28_eq_skeleton]; unfold k0_part28_skel
      refine st_peek m ρ R c fun _ => ?_
      refine st_store m ρ R c 15 rfl (off6_eq c 15) hv ?_
      refine st_chunk m ρ R c 16 (by decide) (off5_eq c 16) ?_
      refine st_keep m ρ R c ?_
      refine st_peek m ρ R c fun _ => ?_
      refine st_store m ρ R c 16 rfl (off6_eq c 16) rfl ?_
      refine st_chunk m ρ R c 17 (by decide) (off5_eq c 17) ?_
      refine st_keep m ρ R c ?_
      exact ends rfl
    refine seq (fun _ => True) (St m ρ R c 20 17 18 0) ?_ fun _ _ => ?_
    · rw [k0_part29_eq_skeleton]; unfold k0_part29_skel
      refine st_peek m ρ R c fun _ => ?_
      refine st_store m ρ R c 17 rfl (off6_eq c 17) hv ?_
      refine recv m ρ R c 18 (by decide) (off3_eq c 18) ?_
      exact ends trivial
    refine seq (fun _ => True) (St m ρ R c 21 18 18 0) ?_ fun _ _ => ?_
    · rw [k0_part30_eq_skeleton]; unfold k0_part30_skel
      refine sendR m ρ R c 20 18 (by decide) (off4_eq c 18) (off3_eq c 18) ?_
      refine recv m ρ R c 19 (by decide) (off3_eq c 19) ?_
      exact ends trivial
    refine seq (fun _ => True) (St m ρ R c 22 19 18 0) ?_ fun _ _ => ?_
    · rw [k0_part31_eq_skeleton]; unfold k0_part31_skel
      refine sendL m ρ R c 21 19 (by decide) (off4_eq c 19) (off3_eq c 19) ?_
      refine recv m ρ R c 20 (by decide) (off3_eq c 20) ?_
      exact ends trivial
    refine seq (fun _ => True) (St m ρ R c 23 20 18 0) ?_ fun _ _ => ?_
    · rw [k0_part32_eq_skeleton]; unfold k0_part32_skel
      refine sendR m ρ R c 22 20 (by decide) (off4_eq c 20) (off3_eq c 20) ?_
      refine recv m ρ R c 21 (by decide) (off3_eq c 21) ?_
      exact ends trivial
    refine seq (fun a => k0_pay44 a.2.1 a.2.2.1 a.2.2.2 = tile m ρ c (sl c 19)) (St m ρ R c 24 20 19 0) ?_ fun ⟨v, v', v'', cst⟩ hv => ?_
    · rw [k0_part33_eq_skeleton]; unfold k0_part33_skel
      refine sendL m ρ R c 23 21 (by decide) (off4_eq c 21) (off3_eq c 21) ?_
      refine st_chunk m ρ R c 18 (by decide) (off5_eq c 18) ?_
      refine st_keep m ρ R c ?_
      refine st_peek m ρ R c fun _ => ?_
      refine st_store m ρ R c 18 rfl (off6_eq c 18) rfl ?_
      refine st_chunk m ρ R c 19 (by decide) (off5_eq c 19) ?_
      refine st_keep m ρ R c ?_
      exact ends rfl
    refine seq (fun a => k0_pay47 a.1 a.2 = tile m ρ c (sl c 21)) (St m ρ R c 24 20 21 0) ?_ fun ⟨v, cst⟩ hv => ?_
    · rw [k0_part34_eq_skeleton]; unfold k0_part34_skel
      refine st_peek m ρ R c fun _ => ?_
      refine st_store m ρ R c 19 rfl (off6_eq c 19) hv ?_
      refine st_chunk m ρ R c 20 (by decide) (off5_eq c 20) ?_
      refine st_keep m ρ R c ?_
      refine st_peek m ρ R c fun _ => ?_
      refine st_store m ρ R c 20 rfl (off6_eq c 20) rfl ?_
      refine st_chunk m ρ R c 21 (by decide) (off5_eq c 21) ?_
      refine st_keep m ρ R c ?_
      exact ends rfl
    refine seq (fun _ => True) (St m ρ R c 24 21 22 0) ?_ fun _ _ => ?_
    · rw [k0_part35_eq_skeleton]; unfold k0_part35_skel
      refine st_peek m ρ R c fun _ => ?_
      refine st_store m ρ R c 21 rfl (off6_eq c 21) hv ?_
      refine recv m ρ R c 22 (by decide) (off3_eq c 22) ?_
      exact ends trivial
    refine seq (fun _ => True) (St m ρ R c 25 22 22 0) ?_ fun _ _ => ?_
    · rw [k0_part36_eq_skeleton]; unfold k0_part36_skel
      refine sendR m ρ R c 24 22 (by decide) (off4_eq c 22) (off3_eq c 22) ?_
      refine recv m ρ R c 23 (by decide) (off3_eq c 23) ?_
      exact ends trivial
    refine seq (fun _ => True) (St m ρ R c 26 23 22 0) ?_ fun _ _ => ?_
    · rw [k0_part37_eq_skeleton]; unfold k0_part37_skel
      refine sendL m ρ R c 25 23 (by decide) (off4_eq c 23) (off3_eq c 23) ?_
      refine recv m ρ R c 24 (by decide) (off3_eq c 24) ?_
      exact ends trivial
    refine seq (fun _ => True) (St m ρ R c 27 24 22 0) ?_ fun _ _ => ?_
    · rw [k0_part38_eq_skeleton]; unfold k0_part38_skel
      refine sendR m ρ R c 26 24 (by decide) (off4_eq c 24) (off3_eq c 24) ?_
      refine recv m ρ R c 25 (by decide) (off3_eq c 25) ?_
      exact ends trivial
    refine seq (fun a => k0_pay52 a.2.1 a.2.2.1 a.2.2.2 = tile m ρ c (sl c 23)) (St m ρ R c 28 24 23 0) ?_ fun ⟨v, v', v'', cst⟩ hv => ?_
    · rw [k0_part39_eq_skeleton]; unfold k0_part39_skel
      refine sendL m ρ R c 27 25 (by decide) (off4_eq c 25) (off3_eq c 25) ?_
      refine st_chunk m ρ R c 22 (by decide) (off5_eq c 22) ?_
      refine st_keep m ρ R c ?_
      refine st_peek m ρ R c fun _ => ?_
      refine st_store m ρ R c 22 rfl (off6_eq c 22) rfl ?_
      refine st_chunk m ρ R c 23 (by decide) (off5_eq c 23) ?_
      refine st_keep m ρ R c ?_
      exact ends rfl
    refine seq (fun a => k0_pay55 a.1 a.2 = tile m ρ c (sl c 25)) (St m ρ R c 28 24 25 0) ?_ fun ⟨v, cst⟩ hv => ?_
    · rw [k0_part40_eq_skeleton]; unfold k0_part40_skel
      refine st_peek m ρ R c fun _ => ?_
      refine st_store m ρ R c 23 rfl (off6_eq c 23) hv ?_
      refine st_chunk m ρ R c 24 (by decide) (off5_eq c 24) ?_
      refine st_keep m ρ R c ?_
      refine st_peek m ρ R c fun _ => ?_
      refine st_store m ρ R c 24 rfl (off6_eq c 24) rfl ?_
      refine st_chunk m ρ R c 25 (by decide) (off5_eq c 25) ?_
      refine st_keep m ρ R c ?_
      exact ends rfl
    refine seq (fun _ => True) (St m ρ R c 28 25 26 0) ?_ fun _ _ => ?_
    · rw [k0_part41_eq_skeleton]; unfold k0_part41_skel
      refine st_peek m ρ R c fun _ => ?_
      refine st_store m ρ R c 25 rfl (off6_eq c 25) hv ?_
      refine recv m ρ R c 26 (by decide) (off3_eq c 26) ?_
      exact ends trivial
    refine seq (fun _ => True) (St m ρ R c 29 26 26 0) ?_ fun _ _ => ?_
    · rw [k0_part42_eq_skeleton]; unfold k0_part42_skel
      refine sendR m ρ R c 28 26 (by decide) (off4_eq c 26) (off3_eq c 26) ?_
      refine recv m ρ R c 27 (by decide) (off3_eq c 27) ?_
      exact ends trivial
    refine seq (fun _ => True) (St m ρ R c 30 27 26 0) ?_ fun _ _ => ?_
    · rw [k0_part43_eq_skeleton]; unfold k0_part43_skel
      refine sendL m ρ R c 29 27 (by decide) (off4_eq c 27) (off3_eq c 27) ?_
      refine recv m ρ R c 28 (by decide) (off3_eq c 28) ?_
      exact ends trivial
    refine seq (fun a => k0_pay58 (scale m ρ c) a.2.1 a.2.2.1 a.2.2.2 = tile m ρ c (sl c 27)) (St m ρ R c 30 28 27 0) ?_ fun ⟨v, v', v'', cst⟩ hv => ?_
    · rw [k0_part44_eq_skeleton]; unfold k0_part44_skel
      refine recv m ρ R c 29 (by decide) (off3_eq c 29) ?_
      refine st_chunk m ρ R c 26 (by decide) (off5_eq c 26) ?_
      refine st_keep m ρ R c ?_
      refine st_peek m ρ R c fun _ => ?_
      refine st_store m ρ R c 26 rfl (off6_eq c 26) rfl ?_
      refine st_chunk m ρ R c 27 (by decide) (off5_eq c 27) ?_
      refine st_keep m ρ R c ?_
      exact ends rfl
    refine seq (fun a => k0_pay61 (scale m ρ c) a (wkeep m ρ c) = tile m ρ c (sl c 29)) (St m ρ R c 30 28 29 0) ?_ fun _ hv => ?_
    · rw [k0_part45_eq_skeleton]; unfold k0_part45_skel
      refine st_peek m ρ R c fun _ => ?_
      refine st_store m ρ R c 27 rfl (off6_eq c 27) hv ?_
      refine st_chunk m ρ R c 28 (by decide) (off5_eq c 28) ?_
      refine st_keep m ρ R c ?_
      refine st_peek m ρ R c fun _ => ?_
      refine st_store m ρ R c 28 rfl (off6_eq c 28) rfl ?_
      refine st_chunk m ρ R c 29 (by decide) (off5_eq c 29) ?_
      exact ends rfl
    refine seq (fun _ => True) (St m ρ R c 30 29 30 0) ?_ fun _ _ => ?_
    · rw [k0_part46_eq_skeleton]; unfold k0_part46_skel
      refine st_keep m ρ R c ?_
      refine st_peek m ρ R c fun _ => ?_
      refine st_store m ρ R c 29 rfl (off6_eq c 29) hv ?_
      refine recv m ρ R c 30 (by decide) (off3_eq c 30) ?_
      exact ends trivial
    refine seq (fun a => a.2 = tile m ρ c (sl c 30)) (St m ρ R c 30 30 30 0) ?_ fun ⟨v, v'⟩ hv => ?_
    · rw [k0_part47_eq_skeleton]; unfold k0_part47_skel
      refine recv m ρ R c 31 (by decide) (off3_eq c 31) ?_
      refine st_chunk m ρ R c 30 (by decide) (off5_eq c 30) ?_
      refine st_keep m ρ R c ?_
      exact ends rfl
    refine seq (fun _ => True) (St m ρ R c 30 30 32 1) ?_ fun _ _ => ?_
    · rw [k0_part48_eq_skeleton]; unfold k0_part48_skel
      refine st_peek m ρ R c fun _ => ?_
      refine st_store m ρ R c 30 rfl (off6_eq c 30) hv ?_
      refine st_chunk m ρ R c 31 (by decide) (off5_eq c 31) ?_
      refine st_keep m ρ R c ?_
      refine st_peek m ρ R c fun _ => ?_
      refine st_store m ρ R c 31 rfl (off6_eq c 31) rfl ?_
      refine drainR m ρ R c 0 (by decide) ?_
      exact ends trivial
    refine seq (fun _ => True) (St m ρ R c 30 30 32 5) ?_ fun _ _ => ?_
    · rw [k0_part49_eq_skeleton]; unfold k0_part49_skel
      refine drainR m ρ R c 1 (by decide) ?_
      refine drainR m ρ R c 4 (by decide) ?_
      refine drainR m ρ R c 6 (by decide) ?_
      refine drainR m ρ R c 8 (by decide) ?_
      exact ends trivial
    refine seq (fun _ => True) (St m ρ R c 30 30 32 9) ?_ fun _ _ => ?_
    · rw [k0_part50_eq_skeleton]; unfold k0_part50_skel
      refine drainR m ρ R c 10 (by decide) ?_
      refine drainR m ρ R c 12 (by decide) ?_
      refine drainR m ρ R c 14 (by decide) ?_
      refine drainR m ρ R c 16 (by decide) ?_
      exact ends trivial
    refine seq (fun _ => True) (St m ρ R c 30 30 32 12) ?_ fun _ _ => ?_
    · rw [k0_part51_eq_skeleton]; unfold k0_part51_skel
      refine drainR m ρ R c 18 (by decide) ?_
      refine drainR m ρ R c 20 (by decide) ?_
      refine drainR m ρ R c 22 (by decide) ?_
      exact ends trivial
    refine seq (fun _ => True) (St m ρ R c 30 30 32 16) ?_ fun _ _ => ?_
    · rw [k0_part52_eq_skeleton]; unfold k0_part52_skel
      refine drainR m ρ R c 24 (by decide) ?_
      refine drainR m ρ R c 26 (by decide) ?_
      refine drainR m ρ R c 28 (by decide) ?_
      refine drainL m ρ R c 2 (by decide) ?_
      exact ends trivial
    refine seq (fun _ => True) (St m ρ R c 30 30 32 20) ?_ fun _ _ => ?_
    · rw [k0_part53_eq_skeleton]; unfold k0_part53_skel
      refine drainL m ρ R c 3 (by decide) ?_
      refine drainL m ρ R c 5 (by decide) ?_
      refine drainL m ρ R c 7 (by decide) ?_
      refine drainL m ρ R c 9 (by decide) ?_
      exact ends trivial
    refine seq (fun _ => True) (St m ρ R c 30 30 32 24) ?_ fun _ _ => ?_
    · rw [k0_part54_eq_skeleton]; unfold k0_part54_skel
      refine drainL m ρ R c 11 (by decide) ?_
      refine drainL m ρ R c 13 (by decide) ?_
      refine drainL m ρ R c 15 (by decide) ?_
      refine drainL m ρ R c 17 (by decide) ?_
      exact ends trivial
    refine seq (fun _ => True) (St m ρ R c 30 30 32 27) ?_ fun _ _ => ?_
    · rw [k0_part55_eq_skeleton]; unfold k0_part55_skel
      refine drainL m ρ R c 19 (by decide) ?_
      refine drainL m ρ R c 21 (by decide) ?_
      refine drainL m ρ R c 23 (by decide) ?_
      exact ends trivial
    refine drainL m ρ R c 25 (by decide) ?_
    exact ends trivial
  refine drainL m ρ (aside m ρ c) c 27 (by decide) ?_
  refine drainL m ρ (aside m ρ c) c 29 (by decide) ?_
  exact closes

end Cert.KernelIdealProof

end
-- ==== Proof.IdealDeal.lean ====
/-
# What the launch deals each device

The launch makes every cell's round state and the tokens of all duties, and credits every cell with what the devices owe
it. This module opens the cells' invariants, hands each device the tokens of the duties it performs and its credits, and
so gives each device what it is `ready` with.
-/
module

public import proofs.«01_k».proof.Proof.IdealBody

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Ghost ℕ

variable (m : (ℓ : Loc nD τ sig) → Buf (Elt F) ℓ) (ρ : Dev nD → PrngReg)

/-! ## Cells and tokens -/

theorem csem_inj : Function.Injective csem := by decide +kernel

theorem cell_inj : Function.Injective (cell : Dev nD × Fin 63 → GSem nD τ sig) := by
  rintro ⟨c, i⟩ ⟨c', i'⟩ h
  have h₁ : c = c' := congrArg (fun g : GSem nD τ sig => g.1.1) h
  have h₂ : i = i' := csem_inj (congrArg Prod.snd h)
  rw [h₁, h₂]

def allCells : Finset (GSem nD τ sig) := Finset.univ.map ⟨cell, cell_inj⟩

/-- The duties at a device's own cells: the barrier's two, and one for each transfer out and each transfer in. -/
abbrev Duty : Type := Bool ⊕ (Fin 30 ⊕ Fin 30)
/-- The semaphore of a duty, and its name there. -/
def dutySem (c : Dev nD) : Duty → SemLoc sig × Bool
  | .inl b => (.reg barS, b)
  | .inr (.inl k) => (.dma (sSem k), false)
  | .inr (.inr k) => (.dma (rSem (sl c (arr k))), false)

theorem rSem_inj : Function.Injective rSem := fun v w h => Fin.ext (by have := congrArg Fin.val h; rw [rSem_val, rSem_val] at this; omega)
theorem sSem_ne_rSem (k : Fin 30) (v : Fin 32) : sSem k ≠ rSem v := fun h => by
  have h₁ := (sSem_lt k).1; rw [h, rSem_val] at h₁; omega

theorem dutySem_inj (c : Dev nD) : Function.Injective (dutySem c) := by
  rintro (b | k | k) (b' | k' | k') h
  · exact congrArg Sum.inl (congrArg Prod.snd h)
  · cases congrArg Prod.fst h
  · cases congrArg Prod.fst h
  · cases congrArg Prod.fst h
  · exact congrArg (fun k => Sum.inr (Sum.inl k)) (sSem_inj (SemLoc.dma.inj (congrArg Prod.fst h)))
  · exact absurd (SemLoc.dma.inj (congrArg Prod.fst h)) (sSem_ne_rSem k _)
  · cases congrArg Prod.fst h
  · exact absurd (SemLoc.dma.inj (congrArg Prod.fst h)).symm (sSem_ne_rSem k' _)
  · exact congrArg (fun k => Sum.inr (Sum.inr k)) (arr_inj (sl_inj c (rSem_inj (SemLoc.dma.inj (congrArg Prod.fst h)))))

/-- The token of a duty: its cell, the first round, its name. -/
def tokOf (p : Dev nD × Duty) : GSem nD τ sig × ℕ × Bool := (((p.1 : Thread nD τ), (dutySem p.1 p.2).1), 0, (dutySem p.1 p.2).2)
theorem tokOf_inj : Function.Injective tokOf := by
  rintro ⟨c, d⟩ ⟨c', d'⟩ h
  have h₁ : c = c' := congrArg (fun x : GSem nD τ sig × ℕ × Bool => x.1.1.1) h
  subst h₁
  have h₂ : d = d' := dutySem_inj c (Prod.ext (congrArg (fun x : GSem nD τ sig × ℕ × Bool => x.1.2) h) (congrArg (fun x : GSem nD τ sig × ℕ × Bool => x.2.2) h))
  rw [h₂]

def allToks : Finset (GSem nD τ sig × ℕ × Bool) := Finset.univ.map ⟨tokOf, tokOf_inj⟩

/-- The launch's ghost state. -/
def u₀ : Ghost := (initOf (Pipeline.cells cfgs cellOf_inj) (Pipeline.launchToks cfgs cellOf_inj), initOf allCells allToks)

/-- The tokens of the duties at device `c`'s own cells. -/
def toks (c : Dev nD) : sProp 𝕄 :=
  iprop((bigSep Finset.univ fun b : Bool => dutyTok ERnd (barCell c) 0 b) ∗ (bigSep Finset.univ fun k : Fin 30 => dutyTok ERnd (sCell c k) 0 false)
    ∗ bigSep Finset.univ fun k : Fin 30 => dutyTok ERnd (rCell c (sl c (arr k))) 0 false)
/-- The tokens of the duties device `c` performs. -/
def payToks (c : Dev nD) : sProp 𝕄 :=
  iprop((dutyTok ERnd (barCell (prv c)) 0 true ∗ dutyTok ERnd (barCell (nxt c)) 0 false) ∗ (bigSep Finset.univ fun k : Fin 30 => dutyTok ERnd (sCell c k) 0 false)
    ∗ bigSep Finset.univ fun k : Fin 30 => dutyTok ERnd (rCell (tgt c k) (sl c (src k))) 0 false)

/-- What the ghost state gives device `c`: the round states of its cells, its positions there, and the tokens. -/
def dealt (c : Dev nD) : sProp 𝕄 :=
  iprop((bigSep Finset.univ fun i : Fin 63 => roundState ERnd (plan m ρ) (cell (c, i)) 0)
    ∗ (bigSep Finset.univ fun i : Fin 63 => iprop(atPos ERnd (cell (c, i)) 0 ∅ 0 ∗ reached ERnd (cell (c, i)) 0)) ∗ toks c)

theorem fund_all : BI.own (ERnd (initOf allCells allToks)) ⊢ (|==> bigSep Finset.univ (dealt m ρ) : sProp 𝕄) := by
  have hX (Φ : GSem nD τ sig → sProp 𝕄) : bigSep allCells Φ = bigSep Finset.univ fun c : Dev nD => bigSep Finset.univ fun i : Fin 63 => Φ (cell (c, i)) := by
    unfold allCells; rw [bigSep_map, bigSep_univ_prod]; rfl
  have hT : bigSep allToks (fun x => (dutyTok ERnd x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ERnd (plan m ρ) allCells allToks) $$ HX with ⟨Hst, Hr, Hat, Htok⟩
  imodintro
  ihave Hst' := (Entails.of_eq (hX fun g => roundState ERnd (plan m ρ) g 0)) $$ Hst
  ihave Hat' := (Entails.of_eq (hX fun g => atPos ERnd g 0 ∅ 0)) $$ Hat
  ihave Hr' := (Entails.of_eq (hX fun g => reached ERnd g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-! ## The cells open -/

/-- The semaphores of the transfers, all scoped to the kernel. -/
abbrev osem (i : Fin 62) : SemLoc sig := csem i.succ

theorem unscoped_eq (c : Dev nD) : (unscopedSems0 c : sProp 𝕄) = semVal (barCell c) 0 := by
  unfold unscopedSems0; rw [bigSep_eq_bigSepL_of_eq [SemLoc.reg barS] (by decide) (by decide)]; rfl

theorem univ_succ : (Finset.univ : Finset (Fin 63)) = insert 0 (Finset.univ.map ⟨Fin.succ, Fin.succ_injective 62⟩) := by decide
theorem zero_notMem : (0 : Fin 63) ∉ Finset.univ.map ⟨Fin.succ, Fin.succ_injective 62⟩ := by decide

/-- A device's counters at zero: the kernel's own and the barrier's. -/
theorem sems_eq (c : Dev nD) :
    (bigSep Finset.univ fun i : Fin 63 => semVal (cell (c, i)) 0 : sProp 𝕄)
      = iprop(unscopedSems0 c ∗ Pipeline.ownSems0 (Ix := Unit) (Name := ℕ) (U := Ghost) (Lvl := ℕ) (Val := Elt F) (τ := τ) osem c) := by
  rw [unscoped_eq, univ_succ, bigSep_insert zero_notMem, bigSep_map]; rfl

/-- Device `c`'s invariants allocated. -/
theorem alloc_at (c : Dev nD) :
    iprop(Pipeline.ownSems0 (Ix := Unit) (Name := ℕ) (U := Ghost) (Lvl := ℕ) (Val := Elt F) (τ := τ) osem c ∗ unscopedSems0 c ∗ dealt m ρ c)
      ⊢ |={Set.univ}=> iprop((bigSep Finset.univ fun i => iprop(∃ κ : ℕ, cellInv ERnd (plan m ρ) κ (cell (c, i))))
          ∗ (bigSep Finset.univ fun i => iprop(atPos ERnd (cell (c, i)) 0 ∅ 0 ∗ reached ERnd (cell (c, i)) 0)) ∗ toks c) := by
  unfold dealt
  iintro ⟨Hos, Hus, Hst, Hat, Htok⟩
  ihave Hv := (Entails.of_eq (sems_eq (F := F) c).symm) $$ [Hos Hus]
  · isplitl [Hus] <;> iassumption
  imod (show iprop((bigSep Finset.univ fun i : Fin 63 => semVal (cell (c, i)) 0) ∗ bigSep Finset.univ fun i : Fin 63 => roundState ERnd (plan m ρ) (cell (c, i)) 0)
      ⊢ (|={Set.univ}=> bigSep Finset.univ fun i => iprop(∃ κ : ℕ, cellInv ERnd (plan m ρ) κ (cell (c, i))) : sProp 𝕄) from by
        rw [← bigSep_sep']
        exact (bigSep_mono fun i _ => (Rounds.body_intro ERnd (plan m ρ) (cell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- What a device has of its own once the cells are open: its positions, and the tokens of what it performs. -/
def own₀ (c : Dev nD) : sProp 𝕄 := iprop((bigSep Finset.univ fun i : Fin 63 => atPos ERnd (cell (c, i)) 0 ∅ 0) ∗ payToks c)
/-- With the records of every cell. -/
def opened (c : Dev nD) : sProp 𝕄 := iprop(records m ρ ∗ own₀ c)

/-- A transfer's direction moves every device one place. -/
def tgtEquiv (k : Fin 30) : Dev nD ≃ Dev nD :=
  if rt k then ⟨nxt, prv, prv_nxt, nxt_prv⟩ else ⟨prv, nxt, nxt_prv, prv_nxt⟩
theorem tgtEquiv_apply (c : Dev nD) (k : Fin 30) : tgtEquiv k c = tgt c k := by
  unfold tgtEquiv tgt; split <;> rfl

/-- The tokens go to the devices that perform the duties. -/
theorem toks_around : (bigSep Finset.univ fun c : Dev nD => (toks c : sProp 𝕄)) = bigSep Finset.univ fun c : Dev nD => payToks c := by
  have hr : (bigSep Finset.univ fun c : Dev nD => bigSep Finset.univ fun k : Fin 30 => (dutyTok ERnd (rCell c (sl c (arr k))) 0 false : sProp 𝕄))
      = bigSep Finset.univ fun c : Dev nD => bigSep Finset.univ fun k : Fin 30 => dutyTok ERnd (rCell (tgt c k) (sl c (src k))) 0 false := by
    rw [bigSep_univ_comm, bigSep_univ_comm (fun (c : Dev nD) (k : Fin 30) => (dutyTok ERnd (rCell (tgt c k) (sl c (src k))) 0 false : sProp 𝕄))]
    refine bigSep_congr fun k _ => ?_
    rw [bigSep_univ_equiv (tgtEquiv k) (fun c : Dev nD => (dutyTok ERnd (rCell c (sl c (arr k))) 0 false : sProp 𝕄))]
    exact bigSep_congr fun c _ => by rw [tgtEquiv_apply, sl_tgt]
  have hb : (bigSep Finset.univ fun c : Dev nD => bigSep Finset.univ fun b : Bool => (dutyTok ERnd (barCell c) 0 b : sProp 𝕄))
      = bigSep Finset.univ fun c : Dev nD => iprop(dutyTok ERnd (barCell (prv c)) 0 true ∗ dutyTok ERnd (barCell (nxt c)) 0 false) := by
    rw [bigSep_univ_comm, bigSep_univ_eq_bigSepL [true, false] (by decide) (by decide), bigSepL_cons_cons, bigSepL_singleton, bigSep_sep',
      bigSep_univ_equiv (⟨prv, nxt, nxt_prv, prv_nxt⟩ : Dev nD ≃ Dev nD) (fun c : Dev nD => (dutyTok ERnd (barCell c) 0 true : sProp 𝕄)),
      bigSep_univ_equiv (⟨nxt, prv, prv_nxt, nxt_prv⟩ : Dev nD ≃ Dev nD) (fun c : Dev nD => (dutyTok ERnd (barCell c) 0 false : sProp 𝕄))]
    rfl
  unfold toks payToks
  rw [bigSep_sep', bigSep_sep', hr, hb]
  exact ((bigSep_sep' _ _ _).trans (congrArg₂ BI.sep rfl (bigSep_sep' _ _ _))).symm

theorem regroup :
    (bigSep Finset.univ fun c : Dev nD => iprop((bigSep Finset.univ fun i => iprop(∃ κ : ℕ, cellInv ERnd (plan m ρ) κ (cell (c, i))))
          ∗ (bigSep Finset.univ fun i => iprop(atPos ERnd (cell (c, i)) 0 ∅ 0 ∗ reached ERnd (cell (c, i)) 0)) ∗ toks c) : sProp 𝕄)
      ⊢ bigSep Finset.univ (opened m ρ) := by
  rw [bigSep_sep', bigSep_sep', ← bigSep_univ_prod (fun p : Dev nD × Fin 63 => iprop(∃ κ : ℕ, cellInv ERnd (plan m ρ) κ (cell p))),
    bigSep_congr (s := Finset.univ) (fun (c : Dev nD) _ => bigSep_sep' Finset.univ (fun i : Fin 63 => (atPos ERnd (cell (c, i)) 0 ∅ 0 : sProp 𝕄)) (fun i => reached ERnd (cell (c, i)) 0)),
    bigSep_sep', ← bigSep_univ_prod (fun p : Dev nD × Fin 63 => (reached ERnd (cell p) 0 : sProp 𝕄)), toks_around]
  iintro ⟨HI, ⟨Hat, #HR⟩, Htok⟩
  ihave HK := (BI.bigSep_exists_pi Finset.univ (fun (p : Dev nD × Fin 63) (κ : ℕ) => (cellInv ERnd (plan m ρ) κ (cell p) : sProp 𝕄))) $$ HI
  icases HK with ⟨%K, #HI⟩
  iapply (show iprop(records m ρ ∗ bigSep Finset.univ own₀) ⊢ bigSep Finset.univ (opened m ρ) from
    (sep_mono_left (BI.bigSep_of_persistent Finset.univ (records m ρ))).trans (Entails.of_eq (bigSep_sep' _ _ _).symm))
  isplitr
  · unfold records
    iexists K
    rw [bigSep_sep']
    isplitl; · iexact HI
    iexact HR
  · unfold own₀
    rw [bigSep_sep']
    isplitl [Hat]; · iexact Hat
    iexact Htok

/-- The step all devices take together before they start: every cell's invariant opens. -/
theorem open_all : (bigSep Finset.univ fun c => iprop(Pipeline.ownSems0 (Ix := Unit) (Name := ℕ) (U := Ghost) (Lvl := ℕ) (Val := Elt F) (τ := τ) osem c ∗ unscopedSems0 c ∗ dealt m ρ c) : sProp 𝕄)
    ⊢ |={Set.univ}=> bigSep Finset.univ (opened m ρ) :=
  ((bigSep_mono fun c _ => alloc_at m ρ c).trans (bigSep_fupd _ _)).trans (BI.fupd_mono (regroup m ρ))

/-! ## The launch credit -/

theorem owed_split (d : Dev nD) (g : GSem nD τ sig) :
    O₀ d g () = (∑ k : Fin 30, if g = rCell (tgt d k) (sl d (src k)) then N else 0) + (if g = barCell (nxt d) then 1 else 0) + (if g = barCell (prv d) then 1 else 0) := by
  have e : O₀ d g () = Ow d 0 g () + tallyAt (barCell (nxt d)) () 1 g () + tallyAt (barCell (prv d)) () 1 g () := rfl
  have w : Ow d 0 g () = ∑ k : Fin 30, if g = rCell (tgt d k) (sl d (src k)) then N else 0 := by
    unfold Ow
    rw [Finset.filter_true_of_mem fun _ _ => Nat.zero_le _, Finset.sum_apply, Finsupp.finset_sum_apply]
    exact Finset.sum_congr rfl fun k _ => by rw [tallyAt_apply]; simp only [and_true]
  rw [e, w, tallyAt_apply, tallyAt_apply]; simp only [and_true]

theorem bar_iff (a b : Dev nD) : barCell a = barCell b ↔ a = b :=
  ⟨fun h => congrArg (fun g : GSem nD τ sig => g.1.1) h, fun h => h ▸ rfl⟩
theorem bar_ne_recv (a b : Dev nD) (v : Fin 32) : barCell a ≠ rCell b v := fun h => by cases congrArg Prod.snd h
/-- The receive cell of an arrival is a transfer's target only for that transfer, from the device before it. -/
theorem recv_iff (c d : Dev nD) (k k' : Fin 30) : rCell c (sl c (arr k)) = rCell (tgt d k') (sl d (src k')) ↔ d = (tgtEquiv k).symm c ∧ k' = k := by
  rw [← sl_tgt, Equiv.eq_symm_apply, tgtEquiv_apply]
  constructor
  · intro h
    have h₁ : c = tgt d k' := congrArg (fun g : GSem nD τ sig => g.1.1) h
    have h₂ : sl c (arr k) = sl (tgt d k') (arr k') := rSem_inj (SemLoc.dma.inj (congrArg Prod.snd h))
    rw [← h₁] at h₂
    have h₃ : k = k' := arr_inj (sl_inj c h₂)
    exact ⟨by rw [h₃, h₁], h₃.symm⟩
  · rintro ⟨h₁, h₂⟩
    rw [h₂, h₁]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same]
  have h : ∀ d, O₀ d (barCell c) () = (if d = prv c then 1 else 0) + (if d = nxt c then 1 else 0) := fun d => by
    rw [owed_split, Finset.sum_eq_zero fun k _ => if_neg (bar_ne_recv _ _ _), Nat.zero_add]
    refine congrArg₂ (· + ·) (if_congr ((bar_iff _ _).trans ⟨fun h => by rw [h, prv_nxt], fun h => by rw [h, nxt_prv]⟩) rfl rfl)
      (if_congr ((bar_iff _ _).trans ⟨fun h => by rw [h, nxt_prv], fun h => by rw [h, prv_nxt]⟩) rfl rfl)
  rw [Finset.sum_congr rfl fun d _ => h d, Finset.sum_add_distrib, Finset.sum_ite_eq' Finset.univ (prv c) fun _ => 1,
    Finset.sum_ite_eq' Finset.univ (nxt c) fun _ => 1, if_pos (Finset.mem_univ _), if_pos (Finset.mem_univ _)]

theorem launch_recv (c : Dev nD) (k : Fin 30) :
    tallyOn (rCell c (sl c (arr k))) (launchCredit (Pipeline.owing O₀) 0 (rCell c (sl c (arr k)))) = (tallyAt (rCell c (sl c (arr k))) () N : CellTallies nD τ sig Unit) := by
  unfold tallyAt; refine congrArg _ (Finsupp.ext fun u => ?_); cases u
  rw [Pipeline.launchCredit_owing, Finsupp.single_eq_same]
  have h : ∀ d, O₀ d (rCell c (sl c (arr k))) () = if d = (tgtEquiv k).symm c then N else 0 := fun d => by
    rw [owed_split, if_neg (bar_ne_recv _ _ _).symm, if_neg (bar_ne_recv _ _ _).symm, Nat.add_zero,
      Finset.sum_congr rfl fun k' _ => if_congr (recv_iff c d k k') rfl rfl]
    by_cases hd : d = (tgtEquiv k).symm c
    · simp only [hd, true_and, if_true]
      rw [Finset.sum_ite_eq' Finset.univ k fun _ => N, if_pos (Finset.mem_univ _)]
    · simp only [hd, false_and, if_false, Finset.sum_const_zero]
  rw [Finset.sum_congr rfl fun d _ => h d, Finset.sum_ite_eq' Finset.univ _ fun _ => N, if_pos (Finset.mem_univ _)]

theorem recvSem_inj (c : Dev nD) : Function.Injective fun k : Fin 30 => (SemLoc.dma (rSem (sl c (arr k))) : SemLoc sig) :=
  fun _ _ h => arr_inj (sl_inj c (rSem_inj (SemLoc.dma.inj h)))

/-- A device's credits: the two units of its barrier cell and each arrival's bytes. -/
theorem creds (c : Dev nD) :
    (Pipeline.launchCred O₀ c : sProp 𝕄) ⊢ iprop(cred (tallyAt (barCell c) () 2) ∗ bigSep Finset.univ fun k : Fin 30 => cred (tallyAt (rCell c (sl c (arr k))) () N)) := by
  unfold Pipeline.launchCred
  rw [bigSep_univ_at _ (SemLoc.reg barS), launch_bar]
  refine sep_mono_right ?_
  have hs : Finset.univ.map ⟨_, recvSem_inj c⟩ ⊆ Finset.univ.erase (SemLoc.reg barS : SemLoc sig) := fun x hx => by
    obtain ⟨k, -, rfl⟩ := Finset.mem_map.mp hx
    exact Finset.mem_erase.mpr ⟨(fun h => by cases h), Finset.mem_univ _⟩
  refine (bigSep_subset hs).trans ?_
  rw [bigSep_map]
  exact bigSep_mono fun k _ => Entails.of_eq (congrArg cred (launch_recv c k))

/-- Each device is ready. -/
theorem ready_of (c : Dev nD) : iprop(levAts L lv ∗ Pipeline.launchCred O₀ c ∗ opened m ρ c) ⊢ (ready m ρ c : sProp 𝕄) := by
  unfold opened own₀ payToks
  rw [cells_split c (fun sm => (atPos ERnd ((c : Thread nD τ), sm) 0 ∅ 0 : sProp 𝕄))]
  iintro ⟨Hlev, Hcr, Hrec, ⟨HatB, HatS, HatR⟩, ⟨HtP, HtN⟩, HtS, HtR⟩
  ihave Hc := (creds (F := F) c) $$ Hcr
  icases Hc with ⟨HcB, HcR⟩
  unfold ready send₀
  isplitl [Hrec]; · iexact Hrec
  isplitl [Hlev]; · iexact Hlev
  isplitl [HatB]; · iexact HatB
  isplitl [HtP]; · iexact HtP
  isplitl [HtN]; · iexact HtN
  isplitl [HcB]; · iexact HcB
  isplitl [HatS HtS HtR]
  · rw [bigSep_sep', bigSep_sep']
    isplitl [HtS]; · iexact HtS
    isplitl [HtR]; · iexact HtR
    iexact HatS
  · unfold turn₀
    rw [bigSep_sep']
    isplitl [HatR]; · iexact HatR
    rw [turns_arr]
    isplitr; · rw [if_pos (by decide)]; iempintro
    isplitr; · rw [if_pos (by decide)]; iempintro
    rw [bigSep_congr (s := Finset.univ) fun (k : Fin 30) _ => if_neg (show ¬ (arr k).val < 2 from Nat.not_lt.mpr (two_le_arr k))]
    iexact HcR

end Cert.KernelIdealProof

end
-- ==== Proof.IdealRun.lean ====
/-
# The run

The kernel's body between the copies of its operands in and of its result out, launched on all devices: every fair run
ends, each device's result is `outF`, the operands are as before and every counter is zero.
-/
module

public import proofs.«01_k».proof.Proof.IdealChain
public import proofs.«01_k».proof.Proof.IdealDeal
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ Ghost ℕ

variable (m : (ℓ : Loc nD τ sig) → Buf (Elt F) ℓ) (ρ : Dev nD → PrngReg)

/-! ## The body at its one grid point -/

/-- Before the body and after it, apart from the windows. -/
def Φ₀ (c : Dev nD) : sProp 𝕄 :=
  iprop(ready m ρ c ∗ (∃ f, ((c : Thread nD τ).loc cc0_scratch0) ↦{fullShare} f) ∗ ∃ f, ((c : Thread nD τ).loc cc0_scratch1) ↦{fullShare} f)
def Φ₁ (c : Dev nD) : sProp 𝕄 :=
  iprop((((c : Thread nD τ).loc cc0_scratch0) ↦{fullShare} comm m ρ) ∗ (((c : Thread nD τ).loc cc0_scratch1) ↦{fullShare} wkeep m ρ c)
    ∗ bigSep Finset.univ fun i : Fin 63 => semVal ((c : Thread nD τ), csem i) 0)

/-- The windows' contents and what holds around the body. -/
def dats (_ : Fin 1) (c : Dev nD) : Dat τ (Elt F) Unit ℕ Ghost ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => sxstg m ρ c
    | ⟨3, _⟩ => swstg m ρ c
    | ⟨4, _⟩ => outF m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem fetched (w : Fin cfg0.W) (hw : w.val < 4) (t : Fin cfg0.N) : (cfg0.win w).fetch t = true := by
  rw [fin_N0 t]; revert w; decide

/-- A staging buffer's ownership as the pipeline states it. -/
theorem owns_stage (c : Dev nD) (b : Ref sig .tc) (X : b.ty.Contents (Elt F)) :
    (owns (Ix := Unit) (Name := ℕ) (U := Ghost) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem owns_out (c : Dev nD) (b : Ref sig .tc) (X : b.ty.Contents (Elt F)) :
    (((c : Thread nD τ).loc b) ↦{fullShare} X : sProp 𝕄)
      ⊢ owns (Ix := Unit) (Name := ℕ) (U := Ghost) (Lvl := ℕ) (c : Thread nD τ) (Memref.whole b) fullShare X := by
  rw [owns_stage]; iintro H; iexists X; isplitr
  · ipureintro; rfl
  iexact H
theorem owns_in (c : Dev nD) (b : Ref sig .tc) (X Y : b.ty.Contents (Elt F)) (h : X = Y) :
    (owns (Ix := Unit) (Name := ℕ) (U := Ghost) (Lvl := ℕ) (c : Thread nD τ) (Memref.whole b) fullShare X : sProp 𝕄)
      ⊢ ((c : Thread nD τ).loc b) ↦{fullShare} Y := by
  rw [owns_stage]; iintro ⟨%f, %hf, H⟩
  rw [← h, ← hf]; iexact H

set_option maxRecDepth 20000 in
/-- The library's obligation for the body, from `body`. -/
theorem body_obligation (c : Dev nD) : BodyObligation (dats (F := F) m ρ 0 c) (defs₀ (F := F)) 𝒱₀ () Set.univ := fun t => by
  rw [fin_N0 t]
  rw [bigSep_W0, bigSep_W0]
  have hb := body m ρ c
  have pre : iprop((dats m ρ 0 c).Φ t0_0.castSucc ∗ (dats m ρ 0 c).owesAt () t0_0.castSucc
      ∗ (∃ d, owns (c : Thread nD τ) (Memref.whole cc0_stg0_0) fullShare ((dats m ρ 0 c).before (0 : Fin 5) t0_0 d))
      ∗ (∃ d, owns (c : Thread nD τ) (Memref.whole cc0_stg1_0) fullShare ((dats m ρ 0 c).before (1 : Fin 5) t0_0 d))
      ∗ (∃ d, owns (c : Thread nD τ) (Memref.whole cc0_stg2_0) fullShare ((dats m ρ 0 c).before (2 : Fin 5) t0_0 d))
      ∗ (∃ d, owns (c : Thread nD τ) (Memref.whole cc0_stg3_0) fullShare ((dats m ρ 0 c).before (3 : Fin 5) t0_0 d))
      ∗ (∃ d, owns (c : Thread nD τ) (Memref.whole cc0_stg4_0) fullShare ((dats m ρ 0 c).before (4 : Fin 5) t0_0 d))) ⊢ (start m ρ c : sProp 𝕄) := by
    rw [show (dats m ρ 0 c).Φ t0_0.castSucc = Φ₀ m ρ c from rfl]
    unfold Φ₀ start held Dat.owesAt Pipeline.owesWithin
    iintro ⟨⟨Hr, Hs0, Hs1⟩, ⟨%W, -, Ho⟩, ⟨%d0, H0⟩, ⟨%d1, H1⟩, ⟨%d2, H2⟩, ⟨%d3, H3⟩, ⟨%d4, H4⟩⟩
    isplitl [Hr]; · iexact Hr
    isplitl [Ho]; · iexists W; iexact Ho
    isplitl [Hs0]; · iexact Hs0
    isplitl [Hs1]; · iexact Hs1
    isplitl [H4]; · iexists ((dats m ρ 0 c).before (4 : Fin 5) t0_0 d4); iapply (owns_in c cc0_stg4_0 _ _ rfl); iexact H4
    isplitl [H0]; · iapply (owns_in c cc0_stg0_0 ((dats m ρ 0 c).before (0 : Fin 5) t0_0 d0) (xstg m ρ c) (by unfold Dat.before; rw [if_pos (fetched (0 : Fin 5) (by decide) t0_0)]; rfl)); iexact H0
    isplitl [H1]; · iapply (owns_in c cc0_stg1_0 ((dats m ρ 0 c).before (1 : Fin 5) t0_0 d1) (wstg m ρ c) (by unfold Dat.before; rw [if_pos (fetched (1 : Fin 5) (by decide) t0_0)]; rfl)); iexact H1
    isplitl [H2]; · iapply (owns_in c cc0_stg2_0 ((dats m ρ 0 c).before (2 : Fin 5) t0_0 d2) (sxstg m ρ c) (by unfold Dat.before; rw [if_pos (fetched (2 : Fin 5) (by decide) t0_0)]; rfl)); iexact H2
    iapply (owns_in c cc0_stg3_0 ((dats m ρ 0 c).before (3 : Fin 5) t0_0 d3) (swstg m ρ c) (by unfold Dat.before; rw [if_pos (fetched (3 : Fin 5) (by decide) t0_0)]; rfl)); iexact H3
  have post : (finish m ρ c : sProp 𝕄) ⊢ iprop((dats m ρ 0 c).Φ t0_0.succ ∗ (dats m ρ 0 c).owesAt () t0_0.succ
      ∗ owns (c : Thread nD τ) (Memref.whole cc0_stg0_0) fullShare ((dats m ρ 0 c).after (0 : Fin 5) t0_0)
      ∗ owns (c : Thread nD τ) (Memref.whole cc0_stg1_0) fullShare ((dats m ρ 0 c).after (1 : Fin 5) t0_0)
      ∗ owns (c : Thread nD τ) (Memref.whole cc0_stg2_0) fullShare ((dats m ρ 0 c).after (2 : Fin 5) t0_0)
      ∗ owns (c : Thread nD τ) (Memref.whole cc0_stg3_0) fullShare ((dats m ρ 0 c).after (3 : Fin 5) t0_0)
      ∗ owns (c : Thread nD τ) (Memref.whole cc0_stg4_0) fullShare ((dats m ρ 0 c).after (4 : Fin 5) t0_0)) := by
    rw [show (dats m ρ 0 c).Φ t0_0.succ = Φ₁ m ρ c from rfl]
    unfold Φ₁ finish held Dat.owesAt Pipeline.owesWithin
    iintro ⟨⟨%W, Ho⟩, Hs0, Hs1, H4, ⟨H0, H1, H2, H3⟩, Hz⟩
    isplitl [Hs0 Hs1 Hz]
    · isplitl [Hs0]; · iexact Hs0
      isplitl [Hs1]; · iexact Hs1
      iexact Hz
    isplitl [Ho]
    · iexists W
      isplitr; · ipureintro; exact fun _ _ => Or.inl trivial
      iexact Ho
    isplitl [H0]; · iapply (owns_out c cc0_stg0_0); iexact H0
    isplitl [H1]; · iapply (owns_out c cc0_stg1_0); iexact H1
    isplitl [H2]; · iapply (owns_out c cc0_stg2_0); iexact H2
    isplitl [H3]; · iapply (owns_out c cc0_stg3_0); iexact H3
    iapply (owns_out c cc0_stg4_0); iexact H4
  exact pre.trans (hb.trans (wp_mono _ _ _ fun _ => post))

/-! ## The launch -/

theorem own_scoped : ∀ i : Fin 62, (osem i).isScoped .tc = true := by decide
theorem own_not_stage : ∀ (i : Fin 62) (w : Fin 5) (s : Fin (spec0 w).nbuf), osem i ≠ .dma ((spec0 w).sem s) := by decide +kernel
theorem ownSemFacts : Pipeline.OwnSemFacts cfg0.spec osem :=
  ⟨own_scoped, fun _ _ h => Fin.succ_injective 62 (csem_inj h), own_not_stage⟩

theorem share_eq (c : Dev nD) (w : Fin cfg0.W) : (dats m ρ 0 c).share w = fullShare := by unfold Dat.share; split <;> rfl

theorem start_of (c : Dev nD) :
    iprop(Pipeline.unscopedRestP Pipeline.Prefetch.none cfg0.spec c (fun b => m ((c : Thread nD τ).loc b)) ∗ levAts L lv
        ∗ Pipeline.launchCred O₀ c ∗ prngReg c (ρ c) ∗ opened m ρ c)
      ⊢ |={Set.univ}=> iprop(ready m ρ c ∗ emp) := by
  iintro ⟨-, Hlev, Hcr, -, HG⟩
  ihave H := (ready_of m ρ c) $$ [Hlev Hcr HG]
  · isplitl [Hlev]; · iexact Hlev
    isplitl [Hcr] <;> iassumption
  imodintro
  isplitl
  · iexact H
  · iempintro

theorem enter (c : Dev nD) :
    iprop(ready m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq]
  unfold Φ₁
  iintro ⟨H0, H1, Hz⟩
  ihave Hz := (Entails.of_eq (sems_eq (F := F) c)) $$ Hz
  icases Hz with ⟨Hu, Ho⟩
  isplitl [Hu]; · iexact Hu
  isplitl [Ho]; · iexact Ho
  isplitl [H0]; · iexists (comm m ρ); iexact H0
  iexists (wkeep m ρ c); iexact H1

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-- What each window's array holds at the end. -/
def final (c : Dev nD) (w : Fin cfg0.W) : Buf (Elt F) ((cfg0.win w).arr.view.loc (c : Thread nD τ)) := (dats m ρ 0 c).arrAt w cfg0.N

set_option maxRecDepth 20000 in
/-- From any memory with zero counters: every fair run of the sixteen devices ends, every window's array at its final
    contents and every counter at zero. -/
theorem run_main : θ_run defs (onTc (τ := τ) (main (F := F))) (s₀ m ρ) (fun r =>
    (∀ (c : Dev nD) (w : Fin cfg0.W), r.2.mem ((cfg0.win w).arr.view.loc (c : Thread nD τ)) = final m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EPipe defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m ρ) (G' := opened m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := open_all m ρ)
    (hA := fun _ _ => rfl) (hpf := fun _ k => k.elim0)
    (X := ready m ρ) (Y := fun c => unscopedSems0 c) (Z := fun _ => iprop(emp))
    (hX := start_of m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold -/

/-- The operands are as before. -/
theorem final_in (c : Dev nD) (w : Fin cfg0.W) (hw : (cfg0.win w).isOut = false) : final m ρ c w = m ((cfg0.win w).arr.view.loc (c : Thread nD τ)) :=
  (dats m ρ 0 c).arrAt_in w hw _

/-- The run ends with every operand as before and every counter at zero. -/
theorem run_frame : θ_run defs (onTc (τ := τ) (main (F := F))) (s₀ m ρ) (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) ∧ r.2.sem = fun _ => 0) :=
  (θ_run defs _ _).mono (fun _ h => ⟨fun c => ⟨(h.1 c (0 : Fin 5)).trans (final_in m ρ c (0 : Fin 5) rfl), (h.1 c (1 : Fin 5)).trans (final_in m ρ c (1 : Fin 5) rfl),
    (h.1 c (2 : Fin 5)).trans (final_in m ρ c (2 : Fin 5) rfl), (h.1 c (3 : Fin 5)).trans (final_in m ρ c (3 : Fin 5) rfl)⟩, h.2⟩) (run_main m ρ)

end Cert.KernelIdealProof

end
-- ==== Proof.RefValue.lean ====
/-
# The reference's result

The reference's one block is its whole array, so its result is its payload at its four arguments.
-/
module

public import proofs.«01_k».proof.Proof.Gen.ReferenceIdeal.Value
public import Idealize.ShloMosaic.Lib.Pipeline.ValueKit

@[expose] public section

noncomputable section

namespace Cert.RefProof

open Cert.ReferenceIdeal Cert.ReferenceIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

set_option backward.proofsInPublic true in
/-- The one index of a scale. -/
def one : S1.Idx := fun a => ⟨0, by revert a; decide⟩

theorem one_eq (x y : S1.Idx) : x = y := funext fun a => match a with
  | ⟨0, _⟩ => Fin.ext (by have hx : (x 0).val < 1 := (x 0).isLt; have hy : (y 0).val < 1 := (y 0).isLt; show (x 0).val = (y 0).val; omega)

/-- The reference's result, of its arguments. -/
def result (c : Dev nD) : Vec F S4096x8192 .f32 :=
  k0_pay1 (m ((c : Thread nD τ).loc main_arg0)) (m ((c : Thread nD τ).loc main_arg1)) ((m ((c : Thread nD τ).loc main_arg2) : S1.Idx → Elt F .f32) one) ((m ((c : Thread nD τ).loc main_arg3) : S1.Idx → Elt F .f32) one)

theorem index0 (t : Fin cfg0.N) : win0_0.index t = fun _ => 0 := rfl
theorem index1 (t : Fin cfg0.N) : win0_1.index t = fun _ => 0 := rfl
theorem index2 (t : Fin cfg0.N) : win0_2.index t = fun _ => 0 := rfl
theorem index3 (t : Fin cfg0.N) : win0_3.index t = fun _ => 0 := rfl
theorem index4 (t : Fin cfg0.N) : win0_4.index t = fun _ => 0 := rfl

/-! Each operand's block is the operand. -/

theorem iblk_0 (c : Dev nD) (t : Fin cfg0.N) : iblk m c 0 t = m ((c : Thread nD τ).loc main_arg0) := by
  funext y
  blk_simp [iblk]
  refine congrArg (m ((c : Thread nD τ).loc main_arg0)) ?_
  blk_ext [index0]
theorem iblk_1 (c : Dev nD) (t : Fin cfg0.N) : iblk m c 1 t = m ((c : Thread nD τ).loc main_arg1) := by
  funext y
  blk_simp [iblk]
  refine congrArg (m ((c : Thread nD τ).loc main_arg1)) ?_
  blk_ext [index1]
theorem iblk_2 (c : Dev nD) (t : Fin cfg0.N) : iblk m c 2 t = m ((c : Thread nD τ).loc main_arg2) := by
  funext y
  blk_simp [iblk]
  refine congrArg (m ((c : Thread nD τ).loc main_arg2)) ?_
  blk_ext [index2]
theorem iblk_3 (c : Dev nD) (t : Fin cfg0.N) : iblk m c 3 t = m ((c : Thread nD τ).loc main_arg3) := by
  funext y
  blk_simp [iblk]
  refine congrArg (m ((c : Thread nD τ).loc main_arg3)) ?_
  blk_ext [index3]

theorem out_eq (c : Dev nD) (t : Fin cfg0.N) : outsAt0 m c t = result m c := by
  unfold outsAt0
  frame_out
  have e0 := (Memref.isWhole_whole cc0_stg0_0).read_unread (Val := Elt F) (iblk m c 0 t)
  have e1 := (Memref.isWhole_whole cc0_stg1_0).read_unread (Val := Elt F) (iblk m c 1 t)
  have e2 := (Memref.isWhole_whole cc0_stg2_0).read_unread (Val := Elt F) (iblk m c 2 t)
  have e3 := (Memref.isWhole_whole cc0_stg3_0).read_unread (Val := Elt F) (iblk m c 3 t)
  refine (congrArg₂ (fun x w => k0_pay1 x w _ _) (e0.trans (iblk_0 m c t)) (e1.trans (iblk_1 m c t))).trans
    (congrArg₂ (fun x w => k0_pay1 _ _ x w) ((congrFun (e2.trans (iblk_2 m c t)) _).trans (congrArg (m ((c : Thread nD τ).loc main_arg2)) ?_))
      ((congrFun (e3.trans (iblk_3 m c t)) _).trans (congrArg (m ((c : Thread nD τ).loc main_arg3)) ?_)))
  all_goals exact one_eq _ _

/-- The result array after the run. -/
theorem final_eq (c : Dev nD) : (dats m 0 c).arrAt 4 cfg0.N = result m c := by
  refine (dats m 0 c).arrAt_eq_of_covers 4 _ (by decide +kernel) fun t hf y => ?_
  blk_simp
  rw [after0_4, out_eq]
  refine congrArg (result m c) ?_
  blk_ext [index4]

/-- The reference's run. -/
theorem run : θ_run defs (onTc (τ := τ) (main (F := F))) ⟨m, fun _ => 0, ρ⟩ (fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c => ⟨(h c).1.trans (final_eq m c), (h c).2⟩) (Cert.ReferenceIdeal.Value.run_blocks m ρ)

end Cert.RefProof

end
-- ==== Proof.Value.lean ====
/-
# The kernel's result

Each device's window blocks are its whole arrays, so the blocks staged are the operands and the result array is `outF`.
-/
module

public import proofs.«01_k».proof.Proof.IdealRun
public import Idealize.ShloMosaic.Lib.Pipeline.ValueKit

@[expose] public section

noncomputable section

namespace Cert.KernelIdealProof

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem index0 (t : Fin cfg0.N) : win0_0.index t = fun _ => 0 := rfl
theorem index1 (t : Fin cfg0.N) : win0_1.index t = fun _ => 0 := rfl
theorem index2 (t : Fin cfg0.N) : win0_2.index t = fun _ => 0 := rfl
theorem index3 (t : Fin cfg0.N) : win0_3.index t = fun _ => 0 := rfl
theorem index4 (t : Fin cfg0.N) : win0_4.index t = fun _ => 0 := rfl

/-! Each operand's block is the operand. -/

theorem blk0 (t : Fin cfg0.N) (f : (main_arg0 : Ref sig .tc).ty.Contents (Elt F)) : (win0_0.blk t).view.read (Elt F) f = f := by
  funext y
  blk_simp
  refine congrArg f ?_
  blk_ext [index0]
theorem xstg_eq (c : Dev nD) : xstg m ρ c = m ((c : Thread nD τ).loc main_arg0) := blk0 _ _
theorem blk1 (t : Fin cfg0.N) (f : (main_arg1 : Ref sig .tc).ty.Contents (Elt F)) : (win0_1.blk t).view.read (Elt F) f = f := by
  funext y
  blk_simp
  refine congrArg f ?_
  blk_ext [index1]
theorem wstg_eq (c : Dev nD) : wstg m ρ c = m ((c : Thread nD τ).loc main_arg1) := blk1 _ _
theorem blk2 (t : Fin cfg0.N) (f : (main_arg2 : Ref sig .tc).ty.Contents (Elt F)) : (win0_2.blk t).view.read (Elt F) f = f := by
  funext y
  blk_simp
  refine congrArg f ?_
  blk_ext [index2]
theorem sxstg_eq (c : Dev nD) : sxstg m ρ c = m ((c : Thread nD τ).loc main_arg2) := blk2 _ _
theorem blk3 (t : Fin cfg0.N) (f : (main_arg3 : Ref sig .tc).ty.Contents (Elt F)) : (win0_3.blk t).view.read (Elt F) f = f := by
  funext y
  blk_simp
  refine congrArg f ?_
  blk_ext [index3]
theorem swstg_eq (c : Dev nD) : swstg m ρ c = m ((c : Thread nD τ).loc main_arg3) := blk3 _ _

/-- The result array after the run. -/
theorem final_out (c : Dev nD) : final m ρ c (4 : Fin 5) = outF m ρ c := by
  unfold final
  refine (dats m ρ 0 c).arrAt_eq_of_covers (4 : Fin 5) _ (by decide +kernel) fun t hf y => ?_
  blk_simp
  rw [show (dats m ρ 0 c).after (4 : Fin 5) t = outF m ρ c from rfl]
  refine congrArg (outF m ρ c) ?_
  blk_ext [index4]

/-- The kernel's run, with its result. -/
theorem run : θ_run defs (onTc (τ := τ) (main (F := F))) (s₀ m ρ) (fun r => ∀ c : Dev nD,
    r.2.mem ((c.tc : Thread nD τ).loc main_v1) = outF m ρ c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun _ h c => ⟨(h.1 c (4 : Fin 5)).trans (final_out m ρ c), (h.1 c (0 : Fin 5)).trans (final_in m ρ c (0 : Fin 5) rfl),
    (h.1 c (1 : Fin 5)).trans (final_in m ρ c (1 : Fin 5) rfl), (h.1 c (2 : Fin 5)).trans (final_in m ρ c (2 : Fin 5) rfl),
    (h.1 c (3 : Fin 5)).trans (final_in m ρ c (3 : Fin 5) rfl)⟩) (run_main m ρ)

end Cert.KernelIdealProof

end
-- ==== Proof.Algebra.lean ====
/-
# The two results agree

Row `i`, column `j` of the reference's result is `act` of the sum of products of row `i` of the left operand and column `j`
of the right one. On device `c` the kernel computes row `i` of its 512 columns from chunk `i / 128`, which is rows
`128 (i / 128)` up to `128 (i / 128) + 127` of the whole left operand.
-/
module

public import proofs.«01_k».proof.Proof.RefValue
public import proofs.«01_k».proof.Proof.Value
public import Idealize.ShloMosaic.PureOps.Ideal.Laws
public import Idealize.ShloMosaic.Lib.ValueIdx
public import Idealize.ShloMosaic.Lib.MatmulPlain
public import Idealize.ShloMosaic.Lib.Layout

@[expose] public section

noncomputable section

namespace Cert.AlgebraProof

open Idealize.ShloMosaic Idealize.ShloMosaic.TcCoe Idealize.SL.Sem

/-- What both programs make of an accumulated product `a` and a scale `s`: with `y = a s`, `y / (1 + exp (0 - min 60 (max (-60) y)))`. -/
def act {F : FTy → Type} [FloatOps F] (s a : F .f32) : F .f32 :=
  Scalar.divf (Scalar.mulf a s) (Scalar.addf (Scalar.ofBits .f32 0x3F800000#32) (Scalar.exp (Scalar.subf (Scalar.ofBits .f32 0x00000000#32)
    (Scalar.minimumf (Scalar.ofBits .f32 0x42700000#32) (Scalar.maximumf (Scalar.ofBits .f32 0xC2700000#32) (Scalar.mulf a s))))))

theorem ref_dot : Cert.ReferenceIdeal.dot_S4096x4096_S4096x8192_S4096x8192_1_0_0_1_n_n = DotDims.plain 4096 4096 8192 := rfl
theorem ker_dot : Cert.KernelIdeal.dot_S128x4096_S4096x512_S128x512_1_0_0_1_n_n = DotDims.plain 128 4096 512 := rfl

/-- The reference's payload at an index. -/
theorem ref_pay (x : Vec Ideal ⟨2, ![4096, 4096]⟩ .fp8e5m2) (w : Vec Ideal ⟨2, ![4096, 8192]⟩ .fp8e5m2) (a b : Ideal .f32) (r : Fin 4096) (j : Fin 8192) :
    Cert.ReferenceIdeal.Gen.k0_pay1 (F := Ideal) x w a b (ValueIdx.ix2 r j) = act (F := Ideal) (Scalar.mulf a b) (∑ k : Fin 4096, (x (ValueIdx.ix2 r k) : EReal) * w (ValueIdx.ix2 k j)) := by
  refine (rfl : _ = act (F := Ideal) (Scalar.mulf a b) (FloatOps.matmul (F := Ideal) Cert.ReferenceIdeal.dot_S4096x4096_S4096x8192_S4096x8192_1_0_0_1_n_n none x w (constant _ .f32 0x00000000#32) (ValueIdx.ix2 r j))).trans
    (congrArg (act (F := Ideal) (Scalar.mulf a b)) ?_)
  rw [ref_dot, Ideal.matmul_plain_apply]
  show Ideal.ofBits .f32 0x00000000#32 + _ = _
  rw [Ideal.ofBits_zero_f32, zero_add]

/-- The kernel's payload at an index. -/
theorem ker_pay (s : Ideal .f32) (x : Vec Ideal ⟨3, ![1, 128, 4096]⟩ .fp8e5m2) (w : Vec Ideal ⟨2, ![4096, 512]⟩ .fp8e5m2) (r : Fin 128) (j : Fin 512) :
    Cert.KernelIdeal.Gen.k0_pay5 (F := Ideal) s x w (ValueIdx.ix2 r j) = act (F := Ideal) s (∑ k : Fin 4096, (x (ValueIdx.ix3 0 r k) : EReal) * w (ValueIdx.ix2 k j)) := by
  refine (rfl : _ = act (F := Ideal) s (FloatOps.matmul (F := Ideal) Cert.KernelIdeal.dot_S128x4096_S4096x512_S128x512_1_0_0_1_n_n none
    (shapeCast _ x (by decide)) w (constant _ .f32 0x00000000#32) (ValueIdx.ix2 r j))).trans
    (congrArg (act (F := Ideal) s) ?_)
  rw [ker_dot, Ideal.matmul_plain_apply]
  show Ideal.ofBits .f32 0x00000000#32 + _ = _
  rw [Ideal.ofBits_zero_f32, zero_add]
  refine Finset.sum_congr rfl fun k _ => congrArg (· * _) ?_
  rw [shapeCast_dropUnit_apply]
  refine congrArg x (funext fun a => ?_)
  match a with
  | ⟨0, _⟩ => rfl
  | ⟨1, _⟩ => rfl
  | ⟨2, _⟩ => rfl

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The launches agree: each device's operands are its blocks of the reference's. -/
def Agree : Prop := ∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)

/-- The reference's two large operands. -/
def X : Vec Ideal ⟨2, ![4096, 4096]⟩ .fp8e5m2 := m' (((0 : Dev Cert.ReferenceIdeal.nD).tc : Thread Cert.ReferenceIdeal.nD Cert.ReferenceIdeal.τ).loc Cert.ReferenceIdeal.main_arg0)
def W : Vec Ideal ⟨2, ![4096, 8192]⟩ .fp8e5m2 := m' (((0 : Dev Cert.ReferenceIdeal.nD).tc : Thread Cert.ReferenceIdeal.nD Cert.ReferenceIdeal.τ).loc Cert.ReferenceIdeal.main_arg1)

open Cert.KernelIdealProof

/-- Row `r` of chunk `v` is row `128 v + r` of the whole left operand. -/
theorem chunk_eq (h : Agree m m') (v : Fin 32) (r : Fin 128) (k : Fin 4096) (i : Fin 4096) (hi : i.val = 128 * v.val + r.val) :
    chunk m ρ v (ValueIdx.ix3 0 r k) = X m' (ValueIdx.ix2 i k) := by
  unfold chunk Cert.KernelIdealProof.comm
  rw [xstg_eq, (h _).1]
  refine congrArg (X m') (funext fun a => Fin.ext ?_)
  match a with
  | ⟨0, _⟩ =>
    show v.val / 2 * 256 + (v.val % 2 * 128 + r.val) = i.val
    omega
  | ⟨1, _⟩ => rfl

/-- Column `j` of device `c`'s block is column `512 c + j` of the whole right operand. -/
theorem wkeep_eq (h : Agree m m') (c : Dev Cert.KernelIdeal.nD) (k : Fin 4096) (j : Fin 512) (q : Fin 8192) (hq : q.val = c.val * 512 + j.val) :
    wkeep m ρ c (ValueIdx.ix2 k j) = W m' (ValueIdx.ix2 k q) := by
  unfold wkeep Cert.KernelIdeal.Gen.k0_pay3
  rw [shapeCast_self, shapeCast_self, wstg_eq, (h c).2.1]
  refine congrArg (W m') (funext fun a => Fin.ext ?_)
  match a with
  | ⟨0, _⟩ => rfl
  | ⟨1, _⟩ => exact hq.symm

theorem scale_eq (h : Agree m m') (c : Dev Cert.KernelIdeal.nD) :
    scale m ρ c = Scalar.mulf (F := Ideal)
      ((m' (((0 : Dev Cert.ReferenceIdeal.nD).tc : Thread Cert.ReferenceIdeal.nD Cert.ReferenceIdeal.τ).loc Cert.ReferenceIdeal.main_arg2) : Cert.ReferenceIdeal.S1.Idx → Elt Ideal .f32) Cert.RefProof.one)
      ((m' (((0 : Dev Cert.ReferenceIdeal.nD).tc : Thread Cert.ReferenceIdeal.nD Cert.ReferenceIdeal.τ).loc Cert.ReferenceIdeal.main_arg3) : Cert.ReferenceIdeal.S1.Idx → Elt Ideal .f32) Cert.RefProof.one) := by
  unfold scale Cert.KernelIdeal.Gen.k0_pay4
  rw [sxstg_eq, swstg_eq, (h c).2.2.1, (h c).2.2.2]
  rfl

/-- Device `c`'s result is its block of the reference's. -/
theorem out_eq (h : Agree m m') (c : Dev Cert.KernelIdeal.nD) :
    (outF m ρ c : Cert.KernelIdeal.S4096x512.Idx → Elt Ideal .f32)
      = Layout.block ⟨2, ![4096, 512]⟩ ⟨2, ![4096, 8192]⟩ 1 16 c (Cert.RefProof.result m' (0 : Dev Cert.ReferenceIdeal.nD)) := by
  funext i
  have h0 : (i 0).val < 4096 := (i 0).isLt
  have h1 : (i 1).val < 512 := (i 1).isLt
  have hc : c.val < 16 := c.isLt
  have ker := ker_pay (scale m ρ c) (chunk m ρ ⟨(i 0).val / 128, by omega⟩) (wkeep m ρ c) ⟨(i 0).val % 128, Nat.mod_lt _ (by decide)⟩ ⟨(i 1).val, h1⟩
  have ref := ref_pay (X m') (W m') ((m' (((0 : Dev Cert.ReferenceIdeal.nD).tc : Thread Cert.ReferenceIdeal.nD Cert.ReferenceIdeal.τ).loc Cert.ReferenceIdeal.main_arg2) : Cert.ReferenceIdeal.S1.Idx → Elt Ideal .f32) Cert.RefProof.one)
    ((m' (((0 : Dev Cert.ReferenceIdeal.nD).tc : Thread Cert.ReferenceIdeal.nD Cert.ReferenceIdeal.τ).loc Cert.ReferenceIdeal.main_arg3) : Cert.ReferenceIdeal.S1.Idx → Elt Ideal .f32) Cert.RefProof.one)
    ⟨(i 0).val, h0⟩ ⟨c.val * 512 + (i 1).val, by omega⟩
  have e1 : outF m ρ c i = Cert.KernelIdeal.Gen.k0_pay5 (F := Ideal) (scale m ρ c) (chunk m ρ ⟨(i 0).val / 128, by omega⟩) (wkeep m ρ c)
      (ValueIdx.ix2 ⟨(i 0).val % 128, Nat.mod_lt _ (by decide)⟩ ⟨(i 1).val, h1⟩) := by
    unfold outF tile
    refine congrArg _ (funext fun a => ?_)
    match a with
    | ⟨0, _⟩ => rfl
    | ⟨1, _⟩ => rfl
  have e2 : (Layout.block ⟨2, ![4096, 512]⟩ ⟨2, ![4096, 8192]⟩ 1 16 c (Cert.RefProof.result m' (0 : Dev Cert.ReferenceIdeal.nD)) : Cert.KernelIdeal.S4096x512.Idx → Elt Ideal .f32) i
      = Cert.RefProof.result m' (0 : Dev Cert.ReferenceIdeal.nD) (ValueIdx.ix2 ⟨(i 0).val, h0⟩ ⟨c.val * 512 + (i 1).val, by omega⟩) := by
    rw [Layout.block_apply]
    refine congrArg _ (funext fun a => ?_)
    match a with
    | ⟨0, _⟩ => rfl
    | ⟨1, _⟩ => rfl
  refine e1.trans (ker.trans (Eq.trans ?_ (ref.symm.trans e2.symm)))
  rw [scale_eq m ρ m' h c]
  refine congrArg (act _) (Finset.sum_congr rfl fun k _ => ?_)
  rw [chunk_eq m ρ m' h _ _ k ⟨(i 0).val, h0⟩ (by show (i 0).val = 128 * ((i 0).val / 128) + (i 0).val % 128; omega),
    wkeep_eq m ρ m' h c k ⟨(i 1).val, h1⟩ ⟨c.val * 512 + (i 1).val, by omega⟩ rfl]

end Cert.AlgebraProof

end
-- ==== Proof.lean ====
/-
# The claims, from the modules that prove them
-/
module

public import proofs.«01_k».proof.Proof.Gen.ReferenceIdeal.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Run
public import proofs.«01_k».proof.Proof.IdealRun
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The kernel's result on each device is its block of the reference's. -/
theorem algebraic : Cert.algebraic_KernelIdeal_ReferenceIdeal (hKernelIdeal := Cert.KernelIdeal.Gen.facts) (hReferenceIdeal := Cert.ReferenceIdeal.Gen.facts) := by
  intro m g m' g' _ h
  refine ⟨Cert.RefProof.result m' (0 : Dev Cert.ReferenceIdeal.nD), ?_, ?_⟩
  · exact (θ_run _ _ _).mono (fun _ hr c => ⟨(hr c).1.trans (Cert.AlgebraProof.out_eq m g m' h c), (hr c).2⟩) (Cert.KernelIdealProof.run m g)
  · exact (θ_run _ _ _).mono (fun _ hr => hr 0) (Cert.RefProof.run m' g')

theorem claim : Cert.Claim := ⟨Cert.Kernel.Gen.facts, Cert.KernelIdeal.Gen.facts, Cert.ReferenceIdeal.Gen.facts,
  fun m ρ _ => Cert.KernelProof.run_frame m ρ, fun m ρ _ => Cert.KernelIdealProof.run_frame m ρ, fun m ρ _ => Cert.ReferenceIdeal.Gen.frame m ρ, trivial, algebraic⟩

end Cert.Proof

end
